-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x256x512 : Shape := ⟨3, ![2, 256, 512]⟩
abbrev S512x512 : Shape := ⟨2, ![512, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S2x256x512 .f32) (main_arg1 : FVec F S512x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S2x256x512 : Shape := ⟨3, ![2, 256, 512]⟩
abbrev S512x512 : Shape := ⟨2, ![512, 512]⟩
abbrev S1x512 : Shape := ⟨2, ![1, 512]⟩
abbrev S512 : Shape := ⟨1, ![512]⟩
abbrev S512x1 : Shape := ⟨2, ![512, 1]⟩
abbrev S512x1536 : Shape := ⟨2, ![512, 1536]⟩
abbrev S1536x512 : Shape := ⟨2, ![1536, 512]⟩
abbrev S8x512 : Shape := ⟨2, ![8, 512]⟩

abbrev nBuf : Space → Nat
  | .hbm => 6
  | .vmem => 4
  | .smem => 0
  | _ => 0

abbrev bufTy : (tb : Table) → Fin (tcTables nBuf tb) → BufTy
  | .hbm, ⟨0, _⟩ => ⟨S2x256x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S1x512, .i32⟩
  | .hbm, ⟨5, _⟩ => ⟨S512, .i32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S1x512, .i32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x256x512 : Shape := ⟨3, ![2, 256, 512]⟩
abbrev S512x512 : Shape := ⟨2, ![512, 512]⟩
abbrev S1x512x512 : Shape := ⟨3, ![1, 512, 512]⟩
abbrev S512x1x512 : Shape := ⟨3, ![512, 1, 512]⟩
abbrev S512x512x512 : Shape := ⟨3, ![512, 512, 512]⟩
abbrev S_ : Shape := ⟨0, ![]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 47
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x512, .f32⟩
  | .hbm, ⟨2, _⟩ => ⟨S512x512, .f32⟩
  | .hbm, ⟨3, _⟩ => ⟨S1x512x512, .f32⟩
  | .hbm, ⟨4, _⟩ => ⟨S512x1x512, .f32⟩
  | .hbm, ⟨5, _⟩ => ⟨S512x512x512, .f32⟩
  | .hbm, ⟨6, _⟩ => ⟨S512x512x512, .f32⟩
  | .hbm, ⟨7, _⟩ => ⟨S512x512x512, .f32⟩
  | .hbm, ⟨8, _⟩ => ⟨S512x512x512, .f32⟩
  | .hbm, ⟨9, _⟩ => ⟨S_, .f32⟩
  | .hbm, ⟨10, _⟩ => ⟨S512x512, .f32⟩
  | .hbm, ⟨11, _⟩ => ⟨S512x512, .f32⟩
  | .hbm, ⟨12, _⟩ => ⟨S512x512, .i32⟩
  | .hbm, ⟨13, _⟩ => ⟨S_, .f32⟩
  | .hbm, ⟨14, _⟩ => ⟨S_, .i32⟩
  | .hbm, ⟨15, _⟩ => ⟨S512, .f32⟩
  | .hbm, ⟨16, _⟩ => ⟨S512, .i32⟩
  | .hbm, ⟨17, _⟩ => ⟨S512x512, .i32⟩
  | .hbm, ⟨18, _⟩ => ⟨S512x512, .i32⟩
  | .hbm, ⟨19, _⟩ => ⟨S_, .i32⟩
  | .hbm, ⟨20, _⟩ => ⟨S512x512, .i32⟩
  | .hbm, ⟨21, _⟩ => ⟨S512x512, .i32⟩
  | .hbm, ⟨22, _⟩ => ⟨S512x512, .i1⟩
  | .hbm, ⟨23, _⟩ => ⟨S512x512, .f32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S1, .i32⟩
  | .hbm, ⟨33, _⟩ => ⟨S_, .i32⟩
  | .hbm, ⟨34, _⟩ => ⟨S512x1, .i32⟩
  | .hbm, ⟨35, _⟩ => ⟨S512x1, .i1⟩
  | .hbm, ⟨36, _⟩ => ⟨S1x1, .i32⟩
  | .hbm, ⟨37, _⟩ => ⟨S512x1, .i32⟩
  | .hbm, ⟨38, _⟩ => ⟨S512x1, .i1⟩
  | .hbm, ⟨39, _⟩ => ⟨S512x1, .i1⟩
  | .hbm, ⟨40, _⟩ => ⟨S_, .i1⟩
  | .hbm, ⟨41, _⟩ => ⟨S512, .i1⟩
  | .hbm, ⟨42, _⟩ => ⟨S512x512, .f32⟩
  | .hbm, ⟨43, _⟩ => ⟨S512x512, .i1⟩
  | .hbm, ⟨44, _⟩ => ⟨S_, .f32⟩
  | .hbm, ⟨45, _⟩ => ⟨S512x512, .f32⟩
  | .hbm, ⟨46, _⟩ => ⟨S512x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_v6 : Ref sig .tc := ⟨.hbm, 11, rfl⟩
abbrev main_call1_v0 : Ref sig .tc := ⟨.hbm, 12, rfl⟩
abbrev main_call1_cst : Ref sig .tc := ⟨.hbm, 13, rfl⟩
abbrev main_call1_c : Ref sig .tc := ⟨.hbm, 14, rfl⟩
abbrev main_call1_v1_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call2_c : Ref sig .tc := ⟨.hbm, 24, rfl⟩
abbrev main_call2_v0 : Ref sig .tc := ⟨.hbm, 25, rfl⟩
abbrev main_call2_v1 : Ref sig .tc := ⟨.hbm, 26, rfl⟩
abbrev main_call2_c_0 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_call2_v5 : Ref sig .tc := ⟨.hbm, 31, rfl⟩
abbrev main_call2_c_1 : Ref sig .tc := ⟨.hbm, 32, rfl⟩
abbrev main_call2_c_2 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_v9 : Ref sig .tc := ⟨.hbm, 37, rfl⟩
abbrev main_call2_v10 : Ref sig .tc := ⟨.hbm, 38, rfl⟩
abbrev main_call2_v11 : Ref sig .tc := ⟨.hbm, 39, rfl⟩
abbrev main_call2_c_3 : Ref sig .tc := ⟨.hbm, 40, rfl⟩
abbrev main_call2_v12 : Ref sig .tc := ⟨.hbm, 41, rfl⟩
abbrev main_call2_v13 : Ref sig .tc := ⟨.hbm, 42, rfl⟩
abbrev main_call2_v14 : Ref sig .tc := ⟨.hbm, 43, rfl⟩
abbrev main_call2_cst : Ref sig .tc := ⟨.hbm, 44, rfl⟩
abbrev main_call2_v15 : Ref sig .tc := ⟨.hbm, 45, rfl⟩
abbrev main_v14 : Ref sig .tc := ⟨.hbm, 46, rfl⟩

abbrev nD : Nat := 1
abbrev τ : Topo := Topo.v7x

variable {F : FTy → Type} [FloatOps F]
-- ==== Proof.Body.lean ====
/- The kernel's body in the steps of its source: the six candidates of a token, the distance of a candidate
   summed in slabs, and the choice among the candidates; and the printed payloads as these steps. Nothing here
   depends on what the floats are. -/
module

public import proofs.«01_k».proof.Proof.Gen.KernelIdeal.Frame
public import Idealize.ShloMosaic.Lib.Pipeline.Value

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]

/-! ## The candidates -/

/-- Every entry's row number. -/
def rowNo : IVec S512x512 32 := iota .tc S512x512 32 [0] iota_S512x512_d0_w32

/-- Every column's smallest key, repeated down the column. -/
def colMin (key : FVec F S512x512 .f32) : FVec F S512x512 .f32 :=
  broadcastTo S512x512
    (shapeCast S1x512 (multiReduction .minimumf [0] S512 key 0x7F800000#32 reduces_S512x512_S512_2 (.inl rfl) rfl)
      shapeCasts_S512_S1x512) broadcasts_S1x512_S512x512

/-- The first row of every column at which the key is the value `m`. -/
def firstAt (key m : FVec F S512x512 .f32) : IVec S1x512 32 :=
  shapeCast S1x512
    (multiReductionI .minsi [0] S512 (select (cmpf .oeq key m) rowNo (broadcast S512x512 512#32)) 2147483647#32
      reduces_S512x512_S512_2 rfl) shapeCasts_S512_S1x512

/-- The first row of every column at which the key is smallest. -/
def pick (key : FVec F S512x512 .f32) : IVec S1x512 32 := firstAt key (colMin key)

/-- The keys with the chosen rows' set to infinity. -/
def strike (key : FVec F S512x512 .f32) (row : IVec S1x512 32) : FVec F S512x512 .f32 :=
  select (cmpi .eq rowNo (broadcastTo S512x512 row broadcasts_S1x512_S512x512))
    (broadcast S512x512 (Scalar.ofBits .f32 0x7F800000#32)) key

/-- The keys before the candidate of number `n` is chosen. -/
def keys (z c : FVec F S512x512 .f32) : ℕ → FVec F S512x512 .f32
  | 0 => k0_pay5 z c
  | n + 1 => strike (keys z c n) (pick (keys z c n))

/-- The candidate of number `n` of every token. -/
def cand (z c : FVec F S512x512 .f32) (n : ℕ) : IVec S1x512 32 := pick (keys z c n)

/-! ## A candidate's distance -/

/-- The codebook, a row to a column, as three parts side by side. -/
def stack (c : FVec F S512x512 .f32) : FVec F S512x1536 .bf16 :=
  k0_pay21 (k0_pay17 (k0_pay4 c)) (k0_pay18 (k0_pay4 c)) (k0_pay19 (k0_pay4 c)) (k0_pay20 (k0_pay4 c))

/-- The squared differences of every token and the codebook row chosen for it. -/
def squares (z c : FVec F S512x512 .f32) (row : IVec S1x512 32) : FVec F S512x512 .f32 :=
  k0_pay36 (k0_pay3 z) row (stack c) k0_pay22

/-- Eight rows starting at a multiple of eight stay within the array. -/
theorem slab_fits (i : Fin 64) : S512x512.Slices ![8 * i.val, 0] S8x512 :=
  ⟨rfl, fun a => by
    have hi := i.isLt
    match a with
    | ⟨0, _⟩ => show 8 * i.val + 8 ≤ 512; omega
    | ⟨1, _⟩ => show 0 + 512 ≤ 512; omega⟩

/-- A row of eight stays within the eight. -/
theorem row_fits (i : Fin 8) : S8x512.Slices ![i.val, 0] S1x512 :=
  ⟨rfl, fun a => by
    have hi := i.isLt
    match a with
    | ⟨0, _⟩ => show i.val + 1 ≤ 8; omega
    | ⟨1, _⟩ => show 0 + 512 ≤ 512; omega⟩

/-- Eight consecutive rows. -/
def slab (x : FVec F S512x512 .f32) (i : Fin 64) : FVec F S8x512 .f32 :=
  extractStridedSlice S8x512 ![8 * i.val, 0] x (slab_fits i)

/-- One row of eight. -/
def row8 (p : FVec F S8x512 .f32) (i : Fin 8) : FVec F S1x512 .f32 :=
  extractStridedSlice S1x512 ![i.val, 0] p (row_fits i)

/-- The slabs from number `16 b` to number `16 b + k`, added in order. -/
def part (x : FVec F S512x512 .f32) (b : ℕ) : (k : ℕ) → 16 * b + k < 64 → FVec F S8x512 .f32
  | 0, h => slab x ⟨16 * b, h⟩
  | k + 1, h => addf (part x b k (Nat.lt_of_succ_lt h)) (slab x ⟨16 * b + (k + 1), h⟩)

/-- The eight rows of a slab added in the kernel's order. -/
def fold8 (p : FVec F S8x512 .f32) : FVec F S1x512 .f32 :=
  addf (addf (addf (row8 p 0) (row8 p 4)) (addf (row8 p 2) (row8 p 6)))
    (addf (addf (row8 p 1) (row8 p 5)) (addf (row8 p 3) (row8 p 7)))

/-- A quarter of the rows added up. -/
def quarter (x : FVec F S512x512 .f32) (b : Fin 4) : FVec F S1x512 .f32 :=
  fold8 (part x b.val 15 (by have := b.isLt; omega))

/-- The root of every column's sum. -/
def root (x : FVec F S512x512 .f32) : FVec F S1x512 .f32 :=
  sqrt (addf (addf (addf (quarter x 0) (quarter x 1)) (quarter x 2)) (quarter x 3))

/-- The distance of every token to the codebook row chosen for it. -/
def dist (z c : FVec F S512x512 .f32) (row : IVec S1x512 32) : FVec F S1x512 .f32 := root (squares z c row)

/-! ## The choice among the candidates -/

/-- Whether a distance is smaller than the best one, or equal to it with a smaller row number. -/
def better (d best : FVec F S1x512 .f32) (row idx : IVec S1x512 32) : IVec S1x512 1 :=
  ori (cmpf .olt d best) (andi (cmpf .oeq d best) (cmpi .slt row idx))

/-- The best distance and its row after the candidates up to number `n`. -/
def best (z c : FVec F S512x512 .f32) : ℕ → FVec F S1x512 .f32 × IVec S1x512 32
  | 0 => (dist z c (cand z c 0), cand z c 0)
  | n + 1 =>
    let t := better (dist z c (cand z c (n + 1))) (best z c n).1 (cand z c (n + 1)) (best z c n).2
    (select t (dist z c (cand z c (n + 1))) (best z c n).1, select t (cand z c (n + 1)) (best z c n).2)

/-! ## The printed payloads -/

section
variable (x0 x1 : Vec F S512x512 .f32)

/-- Reading a whole block gives the block. -/
theorem ld_whole (x : Vec F S512x512 .f32) : View.ld x r0_0 = x :=
  View.ld_unit_zero (funext fun a => by match a with | ⟨0, _⟩ => rfl | ⟨1, _⟩ => rfl) _ x

theorem pay100_eq : k0_pay100 x0 x1 = k0_pay3 x0 := by unfold k0_pay100; rw [ld_whole]
theorem pay101_eq : k0_pay101 x0 x1 = k0_pay4 x1 := by unfold k0_pay101; rw [ld_whole]
theorem pay102_eq : k0_pay102 x0 x1 = cand x0 x1 0 := by unfold k0_pay102; rw [ld_whole, ld_whole]; rfl
theorem pay103_eq : k0_pay103 x0 x1 = cand x0 x1 1 := by unfold k0_pay103; rw [ld_whole, ld_whole]; rfl
theorem pay104_eq : k0_pay104 x0 x1 = keys x0 x1 2 := by unfold k0_pay104; rw [ld_whole, ld_whole]; rfl
theorem pay105_eq : k0_pay105 x0 x1 = colMin (keys x0 x1 2) := by unfold k0_pay105; rw [ld_whole, ld_whole]; rfl

theorem keys_succ (n : ℕ) : keys x0 x1 (n + 1) = strike (keys x0 x1 n) (pick (keys x0 x1 n)) := rfl

theorem pay106_eq : k0_pay106 x0 x1 = cand x0 x1 2 := by
  unfold k0_pay106; rw [pay104_eq, pay105_eq]; unfold cand; generalize keys x0 x1 2 = k; rfl
theorem pay107_eq : k0_pay107 x0 x1 = cand x0 x1 3 := by
  unfold k0_pay107; rw [pay104_eq, pay105_eq]; unfold cand; rw [keys_succ x0 x1 2]; generalize keys x0 x1 2 = k; rfl
theorem pay108_eq : k0_pay108 x0 x1 = cand x0 x1 4 := by
  unfold k0_pay108; rw [pay104_eq, pay105_eq]; unfold cand; rw [keys_succ x0 x1 3, keys_succ x0 x1 2]
  generalize keys x0 x1 2 = k; rfl
theorem pay109_eq : k0_pay109 x0 x1 = cand x0 x1 5 := by
  unfold k0_pay109; rw [pay104_eq, pay105_eq]; unfold cand; rw [keys_succ x0 x1 4, keys_succ x0 x1 3, keys_succ x0 x1 2]
  generalize keys x0 x1 2 = k; rfl

theorem pay114_eq : k0_pay114 x0 x1 = stack x1 := by
  unfold k0_pay114 k0_pay110 k0_pay111 k0_pay112 k0_pay113; rw [pay101_eq]; rfl

theorem pay116_eq : k0_pay116 x0 x1 = squares x0 x1 (cand x0 x1 0) := by
  unfold k0_pay116 k0_pay110 k0_pay111 k0_pay112 k0_pay113; rw [pay100_eq, pay101_eq, pay102_eq]; rfl
theorem pay118_eq : k0_pay118 x0 x1 = squares x0 x1 (cand x0 x1 1) := by
  unfold k0_pay118 k0_pay115; rw [pay100_eq, pay103_eq, pay114_eq]; rfl
theorem pay125_eq : k0_pay125 x0 x1 = squares x0 x1 (cand x0 x1 2) := by
  unfold k0_pay125 k0_pay115; rw [pay100_eq, pay106_eq, pay114_eq]; rfl
theorem pay133_eq : k0_pay133 x0 x1 = squares x0 x1 (cand x0 x1 3) := by
  unfold k0_pay133 k0_pay115; rw [pay100_eq, pay107_eq, pay114_eq]; rfl
theorem pay140_eq : k0_pay140 x0 x1 = squares x0 x1 (cand x0 x1 4) := by
  unfold k0_pay140 k0_pay115; rw [pay100_eq, pay108_eq, pay114_eq]; rfl
theorem pay149_eq : k0_pay149 x0 x1 = squares x0 x1 (cand x0 x1 5) := by
  unfold k0_pay149 k0_pay115; rw [pay100_eq, pay109_eq, pay114_eq]; rfl

theorem pay117_eq : k0_pay117 x0 x1 = root (k0_pay116 x0 x1) := rfl

theorem pay123_eq : k0_pay123 x0 x1 = select (better (root (k0_pay118 x0 x1)) (k0_pay117 x0 x1) (k0_pay103 x0 x1) (k0_pay102 x0 x1))
    (root (k0_pay118 x0 x1)) (k0_pay117 x0 x1) := rfl
theorem pay124_eq : k0_pay124 x0 x1 = select (better (root (k0_pay118 x0 x1)) (k0_pay117 x0 x1) (k0_pay103 x0 x1) (k0_pay102 x0 x1))
    (k0_pay103 x0 x1) (k0_pay102 x0 x1) := rfl
theorem pay131_eq : k0_pay131 x0 x1 = select (better (root (k0_pay125 x0 x1)) (k0_pay123 x0 x1) (k0_pay106 x0 x1) (k0_pay124 x0 x1))
    (root (k0_pay125 x0 x1)) (k0_pay123 x0 x1) := rfl
theorem pay132_eq : k0_pay132 x0 x1 = select (better (root (k0_pay125 x0 x1)) (k0_pay123 x0 x1) (k0_pay106 x0 x1) (k0_pay124 x0 x1))
    (k0_pay106 x0 x1) (k0_pay124 x0 x1) := rfl
theorem pay138_eq : k0_pay138 x0 x1 = select (better (root (k0_pay133 x0 x1)) (k0_pay131 x0 x1) (k0_pay107 x0 x1) (k0_pay132 x0 x1))
    (root (k0_pay133 x0 x1)) (k0_pay131 x0 x1) := rfl
theorem pay139_eq : k0_pay139 x0 x1 = select (better (root (k0_pay133 x0 x1)) (k0_pay131 x0 x1) (k0_pay107 x0 x1) (k0_pay132 x0 x1))
    (k0_pay107 x0 x1) (k0_pay132 x0 x1) := rfl
theorem pay147_eq : k0_pay147 x0 x1 = select (better (root (k0_pay140 x0 x1)) (k0_pay138 x0 x1) (k0_pay108 x0 x1) (k0_pay139 x0 x1))
    (root (k0_pay140 x0 x1)) (k0_pay138 x0 x1) := rfl
theorem pay148_eq : k0_pay148 x0 x1 = select (better (root (k0_pay140 x0 x1)) (k0_pay138 x0 x1) (k0_pay108 x0 x1) (k0_pay139 x0 x1))
    (k0_pay108 x0 x1) (k0_pay139 x0 x1) := rfl

/-- The best after one candidate more. -/
theorem best_succ (n : ℕ) (d b : FVec F S1x512 .f32) (row idx : IVec S1x512 32) (hd : d = dist x0 x1 (cand x0 x1 (n + 1)))
    (hrow : row = cand x0 x1 (n + 1)) (hb : b = (best x0 x1 n).1) (hidx : idx = (best x0 x1 n).2) :
    select (better d b row idx) d b = (best x0 x1 (n + 1)).1 ∧ select (better d b row idx) row idx = (best x0 x1 (n + 1)).2 := by
  subst hd hrow hb hidx; exact ⟨rfl, rfl⟩

theorem best_zero : best x0 x1 0 = (dist x0 x1 (cand x0 x1 0), cand x0 x1 0) := by rw [best]

theorem best0 : k0_pay117 x0 x1 = (best x0 x1 0).1 ∧ k0_pay102 x0 x1 = (best x0 x1 0).2 :=
  ⟨by rw [pay117_eq, pay116_eq, best_zero]; rfl, by rw [pay102_eq, best_zero]⟩
theorem best1 : k0_pay123 x0 x1 = (best x0 x1 1).1 ∧ k0_pay124 x0 x1 = (best x0 x1 1).2 := by
  rw [pay123_eq, pay124_eq, pay118_eq]; exact best_succ x0 x1 0 _ _ _ _ rfl (pay103_eq x0 x1) (best0 x0 x1).1 (best0 x0 x1).2
theorem best2 : k0_pay131 x0 x1 = (best x0 x1 2).1 ∧ k0_pay132 x0 x1 = (best x0 x1 2).2 := by
  rw [pay131_eq, pay132_eq, pay125_eq]; exact best_succ x0 x1 1 _ _ _ _ rfl (pay106_eq x0 x1) (best1 x0 x1).1 (best1 x0 x1).2
theorem best3 : k0_pay138 x0 x1 = (best x0 x1 3).1 ∧ k0_pay139 x0 x1 = (best x0 x1 3).2 := by
  rw [pay138_eq, pay139_eq, pay133_eq]; exact best_succ x0 x1 2 _ _ _ _ rfl (pay107_eq x0 x1) (best2 x0 x1).1 (best2 x0 x1).2
theorem best4 : k0_pay147 x0 x1 = (best x0 x1 4).1 ∧ k0_pay148 x0 x1 = (best x0 x1 4).2 := by
  rw [pay147_eq, pay148_eq, pay140_eq]; exact best_succ x0 x1 3 _ _ _ _ rfl (pay108_eq x0 x1) (best3 x0 x1).1 (best3 x0 x1).2

/-- The chosen rows as the body stores them, in terms of its last candidate's values. -/
def lastPay : IVec S1x512 32 :=
  k0_pay1 (k0_pay109 x0 x1) (k0_pay147 x0 x1) (k0_pay148 x0 x1) (k0_pay150 x0 x1) (k0_pay151 x0 x1) (k0_pay152 x0 x1)
    (k0_pay153 x0 x1) (k0_pay154 x0 x1) (k0_pay155 x0 x1)

theorem lastPay_eq : lastPay x0 x1
    = select (better (root (k0_pay149 x0 x1)) (k0_pay147 x0 x1) (k0_pay109 x0 x1) (k0_pay148 x0 x1)) (k0_pay109 x0 x1)
        (k0_pay148 x0 x1) := rfl

/-- The row numbers stored are the best rows after all six candidates. -/
theorem lastPay_best : lastPay x0 x1 = (best x0 x1 5).2 := by
  rw [lastPay_eq, pay149_eq]
  exact (best_succ x0 x1 4 _ _ _ _ rfl (pay109_eq x0 x1) (best4 x0 x1).1 (best4 x0 x1).2).2

/-- A one in every token's row at the number chosen, zeros elsewhere. -/
def oneAt (idx : IVec S1x512 32) : FVec F S512x512 .f32 :=
  sitofp .f32 (extui 32 (cmpi .eq (iota .tc S512x512 32 [1] iota_S512x512_d1_w32)
    (broadcastTo S512x512 (transpose S512x1 [1, 0] idx transposes_S1x512_p1_0_S512x1) broadcasts_S512x1_S512x512)) natLt_1_32)

/-- The row numbers that the body leaves. -/
theorem out3_eq : out0_3 x0 x1 = (best x0 x1 5).2 := by
  unfold out0_3
  rw [View.canon_unit_zero (funext fun a => by match a with | ⟨0, _⟩ => rfl | ⟨1, _⟩ => rfl)]
  exact lastPay_best x0 x1

/-- The one-hot rows that the body leaves. -/
theorem out2_eq : out0_2 x0 x1 = oneAt (best x0 x1 5).2 := by
  unfold out0_2
  rw [View.canon_unit_zero (funext fun a => by match a with | ⟨0, _⟩ => rfl | ⟨1, _⟩ => rfl)]
  exact congrArg oneAt (lastPay_best x0 x1)

end

end Cert.KernelIdeal.Body

end
-- ==== Proof.First.lean ====
/- The first index at which a row of extended reals is smallest: what it is for an index word to name it, that a
   row has one such word, and that an order-preserving change of the row's values keeps it. -/
module

public import Idealize.ShloMosaic.Lib.Pointwise
public import Idealize.ShloMosaic.Lib.SortNet.Extract

@[expose] public section

set_option maxRecDepth 16384

noncomputable section

namespace Cert.First

open Idealize.ShloMosaic

/-- The word `w` is the number of the first entry of `f` that is smallest. -/
def IsFirst (f : Fin 512 → EReal) (w : BitVec 32) : Prop :=
  ∃ i : Fin 512, w = BitVec.ofNat 32 i.val ∧ ∀ k, f i ≤ f k ∧ (f k = f i → i ≤ k)

/-- A small number's word, read back as a signed integer. -/
theorem toInt_ofNat {n : ℕ} (h : n < 2 ^ 31) : (BitVec.ofNat 32 n).toInt = (n : ℤ) := by
  rw [BitVec.toInt_eq_toNat_of_lt] <;> rw [BitVec.toNat_ofNat] <;> omega

theorem toInt_fin (i : Fin 512) : (BitVec.ofNat 32 i.val).toInt = (i.val : ℤ) :=
  toInt_ofNat (by have := i.isLt; omega)

/-- Two words of small numbers are equal exactly when the numbers are. -/
theorem ofNat_inj (i k : Fin 512) : BitVec.ofNat 32 i.val = BitVec.ofNat 32 k.val ↔ i = k := by
  constructor
  · intro h
    have e := congrArg BitVec.toInt h
    rw [toInt_fin, toInt_fin] at e
    exact Fin.ext (by exact_mod_cast e)
  · rintro rfl; rfl

/-- There is one such word. -/
theorem IsFirst.unique {f : Fin 512 → EReal} {w w' : BitVec 32} (h : IsFirst f w) (h' : IsFirst f w') : w = w' := by
  obtain ⟨i, rfl, hi⟩ := h
  obtain ⟨k, rfl, hk⟩ := h'
  have e : f i = f k := le_antisymm (hi k).1 (hk i).1
  rw [le_antisymm ((hi k).2 e.symm) ((hk i).2 e)]

/-- The row's values may be changed by any change that keeps their order and confuses no two of them. -/
theorem IsFirst.of_order {f g : Fin 512 → EReal} {w : BitVec 32} (h : IsFirst f w) (hle : ∀ a b, f a ≤ f b → g a ≤ g b)
    (heq : ∀ a b, g a = g b → f a = f b) : IsFirst g w := by
  obtain ⟨i, rfl, hi⟩ := h
  exact ⟨i, rfl, fun k => ⟨hle _ _ (hi k).1, fun e => (hi k).2 (heq _ _ e)⟩⟩

/-- The minimum of a row from infinity is below every entry and is one of them. -/
theorem fold_min (f : Fin 512 → EReal) :
    ∃ i, Finset.fold min ⊤ f Finset.univ = f i ∧ ∀ k, f i ≤ f k := by
  obtain ⟨i, -, hi⟩ := Finset.exists_min_image Finset.univ f ⟨0, Finset.mem_univ _⟩
  refine ⟨i, le_antisymm ?_ ?_, fun k => hi k (Finset.mem_univ k)⟩
  · exact Finset.fold_min_le _ |>.mpr (Or.inr ⟨i, Finset.mem_univ _, le_rfl⟩)
  · exact Finset.le_fold_min _ |>.mpr ⟨le_top, fun k hk => hi k hk⟩

/-- The signed minimum of a family of words, in integers. -/
theorem toInt_fold (b : BitVec 32) (g : Fin 512 → BitVec 32) :
    (Finset.fold IntOp.minsi b g Finset.univ).toInt = Finset.fold min b.toInt (fun x => (g x).toInt) Finset.univ :=
  (Finset.fold_hom (op := IntOp.minsi) (op' := min) (m := BitVec.toInt) SortNet.toInt_minsi).symm

/-- THE KERNEL'S CHOICE: the smallest of the row numbers at which the row is at its minimum (512 standing for the
    other rows) names the first smallest entry. -/
theorem isFirst_fold (f : Fin 512 → EReal) :
    IsFirst f (Finset.fold IntOp.minsi 2147483647#32
      (fun x => if f x = Finset.fold min ⊤ f Finset.univ then BitVec.ofNat 32 x.val else 512#32) Finset.univ) := by
  obtain ⟨i, hM, hi⟩ := fold_min f
  rw [hM]
  have hne : (Finset.univ.filter fun x => f x = f i).Nonempty := ⟨i, by simp⟩
  obtain ⟨a, ha, hmin⟩ := Finset.exists_min_image _ (fun x : Fin 512 => x) hne
  have ha' : f a = f i := (Finset.mem_filter.mp ha).2
  refine ⟨a, ?_, fun k => ⟨ha' ▸ hi k, fun e => hmin k (Finset.mem_filter.mpr ⟨Finset.mem_univ _, e.trans ha'⟩)⟩⟩
  apply BitVec.eq_of_toInt_eq
  rw [toInt_fold, toInt_fin]
  apply le_antisymm
  · refine Finset.fold_min_le _ |>.mpr (Or.inr ⟨a, Finset.mem_univ _, ?_⟩)
    rw [if_pos ha', toInt_fin]
  · refine Finset.le_fold_min _ |>.mpr ⟨?_, fun k _ => ?_⟩
    · have := a.isLt
      rw [show (2147483647#32).toInt = (2147483647 : ℤ) from by decide]; omega
    · have hlt := a.isLt
      by_cases hk : f k = f i
      · rw [if_pos hk, toInt_fin]
        have := hmin k (Finset.mem_filter.mpr ⟨Finset.mem_univ _, hk⟩)
        exact_mod_cast this
      · rw [if_neg hk, show (512#32).toInt = (512 : ℤ) from by decide]; omega

/-- One pair comes before another: its value is smaller, or equal with a number not larger. -/
def Before (p q : EReal × BitVec 32) : Prop := p.1 < q.1 ∨ p.1 = q.1 ∧ p.2.toInt ≤ q.2.toInt

theorem Before.refl (p : EReal × BitVec 32) : Before p p := Or.inr ⟨rfl, le_rfl⟩

theorem Before.trans {p q r : EReal × BitVec 32} (h : Before p q) (h' : Before q r) : Before p r := by
  rcases h with h | ⟨e, h⟩ <;> rcases h' with h' | ⟨e', h'⟩
  · exact Or.inl (h.trans h')
  · exact Or.inl (e' ▸ h)
  · exact Or.inl (e ▸ h')
  · exact Or.inr ⟨e.trans e', h.trans h'⟩

/-- Folding a list of pairs by a choice of the earlier of two gives a pair of the list, or the first one, that
    comes before all of them. -/
theorem foldl_before (op : EReal × BitVec 32 → EReal × BitVec 32 → EReal × BitVec 32)
    (hop : ∀ p q, (op p q = p ∨ op p q = q) ∧ Before (op p q) p ∧ Before (op p q) q) (l : List (EReal × BitVec 32)) :
    ∀ p, (l.foldl op p = p ∨ l.foldl op p ∈ l) ∧ Before (l.foldl op p) p ∧ ∀ q ∈ l, Before (l.foldl op p) q := by
  induction l with
  | nil => exact fun p => ⟨Or.inl rfl, Before.refl p, fun q hq => absurd hq (List.not_mem_nil)⟩
  | cons a l ih =>
    intro p
    obtain ⟨hm, hb, hl⟩ := ih (op p a)
    obtain ⟨ho, hp, ha⟩ := hop p a
    rw [List.foldl_cons]
    refine ⟨?_, hb.trans hp, fun q hq => ?_⟩
    · rcases hm with e | h
      · rcases ho with o | o
        · exact Or.inl (e.trans o)
        · exact Or.inr (by rw [e, o]; exact List.mem_cons_self)
      · exact Or.inr (List.mem_cons_of_mem _ h)
    · rcases List.mem_cons.mp hq with rfl | hq
      · exact hb.trans ha
      · exact hl q hq

end Cert.First

end
-- ==== Proof.Reads.lean ====
/- The kernel's steps read at a token over the reals: the key of a codebook row, the row that the body picks, the
   squared differences that its one-hot product leaves, and their sum. -/
module

public import proofs.«01_k».proof.Proof.Body
public import proofs.«01_k».proof.Proof.First

@[expose] public section

set_option maxRecDepth 16384

noncomputable section

namespace Cert.KernelIdeal.Body

open Cert.KernelIdeal Cert.KernelIdeal.Gen Cert.First Idealize.ShloMosaic Idealize.ShloMosaic.TcCoe Idealize.SL.Sem

/-- The word of the float infinity is infinity. -/
theorem ofBits_inf : Ideal.ofBits FTy.f32 2139095040#32 = ⊤ := by simp [Ideal.ofBits, Ideal.ieee]

/-- The words of two and of sixty-four. -/
theorem ofBits_two : Ideal.ofBits FTy.f32 1073741824#32 = ((2 : ℝ) : EReal) := by
  simp [Ideal.ofBits, Ideal.ieee]
  rw [← EReal.coe_mul]; norm_num
theorem ofBits_sixtyfour : Ideal.ofBits FTy.f32 1115684864#32 = ((64 : ℝ) : EReal) := by
  simp [Ideal.ofBits, Ideal.ieee]
  rw [← EReal.coe_mul]; norm_num

/-- What the body picks is the first row of the column at which the key is smallest. -/
theorem pick_isFirst (key : FVec Ideal S512x512 .f32) (t : Fin 512) :
    IsFirst (fun n => key (ix2 n t)) (pick key (ix2 0 t)) := by
  have e : pick key (ix2 0 t) = Finset.fold IntOp.minsi 2147483647#32
      (fun x : Fin 512 => if key (ix2 x t) = Finset.fold min ⊤ (fun n : Fin 512 => key (ix2 n t)) Finset.univ
        then BitVec.ofNat 32 x.val else 512#32) Finset.univ := by
    pointwise [pick, firstAt, rowNo, colMin]
    simp only [ofBits_inf]
  rw [e]
  exact isFirst_fold _

/-- So a candidate is some row's number. -/
theorem cand_row (z c : FVec Ideal S512x512 .f32) (n : ℕ) (t : Fin 512) :
    ∃ i : Fin 512, cand z c n (ix2 0 t) = BitVec.ofNat 32 i.val := by
  obtain ⟨i, hi, -⟩ := pick_isFirst (keys z c n) t
  exact ⟨i, hi⟩

section
variable (z c : FVec Ideal S512x512 .f32) (Z C : Fin 512 → Fin 512 → ℝ)
variable (hz : ∀ t d, z (ix2 t d) = (Z t d : EReal)) (hc : ∀ n d, c (ix2 n d) = (C n d : EReal))

/-- The squared distance of a codebook row to a token. -/
def sq (n t : Fin 512) : ℝ := ∑ d, (C n d - Z t d) ^ 2

theorem coe_sum (f : Fin 512 → ℝ) : (∑ d, ((f d : ℝ) : EReal)) = ((∑ d, f d : ℝ) : EReal) :=
  (map_sum (⟨⟨Real.toEReal, EReal.coe_zero⟩, EReal.coe_add⟩ : ℝ →+ EReal) f Finset.univ).symm

include hz hc in
/-- THE KEY of a row is the squared distance up to a term that the row has no part in. -/
theorem key_eq (n t : Fin 512) :
    k0_pay5 (F := Ideal) z c (ix2 n t) = ((sq Z C n t + (64 - ∑ d, Z t d ^ 2) : ℝ) : EReal) := by
  have e : (∑ d, C n d * C n d) - 2 * ∑ d, C n d * Z t d + 64 = sq Z C n t + (64 - ∑ d, Z t d ^ 2) := by
    have h : sq Z C n t = ((∑ d, C n d * C n d) - 2 * ∑ d, C n d * Z t d) + ∑ d, Z t d ^ 2 := by
      rw [sq, Finset.mul_sum, ← Finset.sum_sub_distrib, ← Finset.sum_add_distrib]
      exact Finset.sum_congr rfl fun d _ => by ring
    rw [h]; ring
  pointwise [k0_pay5, k0_pay3]
  simp only [hc, hz, ← EReal.coe_mul, coe_sum, ofBits_two, ofBits_sixtyfour]
  rw [← e, EReal.coe_add, EReal.coe_sub, EReal.coe_mul]

/-! ## The one-hot product -/

include hc in
/-- Column `k` of the three stacked parts holds the codebook's row `k`, and zero beyond the first part. -/
theorem stack_eq (d : Fin 512) (k : Fin 1536) :
    stack c (ix2 d k) = if h : k.val < 512 then c (ix2 ⟨k.val, h⟩ d) else 0 := by
  have h0 : ∀ n d, c (ix2 n d) - c (ix2 n d) = 0 := fun n d => by
    rw [hc, ← EReal.coe_sub, sub_self, EReal.coe_zero]
  pointwise [stack, k0_pay21, k0_pay17, k0_pay18, k0_pay19, k0_pay20, k0_pay4]
  simp only [h0, sub_zero, dite_eq_ite, ite_self]

/-- The words of two row numbers compare equal exactly when the numbers are. -/
theorem cmpi_numbers (a b : Fin 512) :
    IntOp.cmpi CmpIPredicate.eq (BitVec.ofNat 32 a.val) (BitVec.ofNat 32 b.val) = if a = b then 1#1 else 0#1 := by
  show BitVec.ofBool (BitVec.ofNat 32 a.val == BitVec.ofNat 32 b.val) = _
  by_cases h : a = b
  · rw [if_pos h, h, beq_self_eq_true]; rfl
  · rw [if_neg h, beq_eq_false_iff_ne.mpr (fun e => h ((ofNat_inj a b).mp e))]; rfl

/-- A row number below 1536 with only its nine low bits kept is a given row's exactly when it is that row modulo 512. -/
theorem low_bits (k : Fin 1536) (i : Fin 512) :
    IntOp.cmpi CmpIPredicate.eq (IntOp.andi (BitVec.ofNat 32 k.val) 511#32) (BitVec.ofNat 32 i.val)
      = if k.val % 512 = i.val then 1#1 else 0#1 := by
  have e : IntOp.andi (BitVec.ofNat 32 k.val) 511#32 = BitVec.ofNat 32 (k.val % 512) := by
    apply BitVec.eq_of_toNat_eq
    show (BitVec.ofNat 32 k.val &&& 511#32).toNat = _
    rw [BitVec.toNat_and, BitVec.toNat_ofNat, BitVec.toNat_ofNat, BitVec.toNat_ofNat,
      Nat.mod_eq_of_lt (show k.val < 2 ^ 32 by have := k.isLt; omega),
      Nat.mod_eq_of_lt (show k.val % 512 < 2 ^ 32 by have := k.isLt; omega),
      show 511 % 2 ^ 32 = 2 ^ 9 - 1 from by decide, Nat.and_two_pow_sub_one_eq_mod]
  rw [e]
  exact cmpi_numbers ⟨k.val % 512, Nat.mod_lt _ (by decide)⟩ i |>.trans (by simp only [Fin.ext_iff])

/-- A flag as a float is one or zero. -/
theorem flag (P : Prop) [Decidable P] :
    (FloatOps.sitofp (F := Ideal) FTy.f32 (BitVec.setWidth 32 (if P then 1#1 else 0#1)) : EReal) = if P then 1 else 0 := by
  show (((BitVec.setWidth 32 (if P then 1#1 else 0#1)).toInt : ℝ) : EReal) = _
  by_cases h : P
  · rw [if_pos h, if_pos h, show (BitVec.setWidth 32 1#1).toInt = 1 from by decide]; norm_num
  · rw [if_neg h, if_neg h, show (BitVec.setWidth 32 0#1).toInt = 0 from by decide]; norm_num

include hz hc in
/-- THE SQUARES: with a token's row number `i`, column `t` holds the squared differences of the row `i` and the token. -/
theorem squares_eq (row : IVec S1x512 32) (t i : Fin 512) (hrow : row (ix2 0 t) = BitVec.ofNat 32 i.val) (d : Fin 512) :
    squares z c row (ix2 d t) = (((C i d - Z t d) ^ 2 : ℝ) : EReal) := by
  have e : (∑ x : Fin 1536, stack c (ix2 d x) * FloatOps.sitofp (F := Ideal) FTy.f32 (BitVec.setWidth 32
      (IntOp.cmpi CmpIPredicate.eq (IntOp.andi (BitVec.ofNat 32 x.val) 511#32) (BitVec.ofNat 32 i.val)))) = c (ix2 i d) := by
    rw [Finset.sum_eq_single (⟨i.val, by have := i.isLt; omega⟩ : Fin 1536)]
    · rw [low_bits, flag, stack_eq c C hc, dif_pos i.isLt, if_pos (Nat.mod_eq_of_lt i.isLt), mul_one]
    · intro k _ hk
      rw [low_bits, flag, stack_eq c C hc]
      by_cases h : k.val < 512
      · rw [if_neg (fun e => hk (Fin.ext ((Nat.mod_eq_of_lt h).symm.trans e))), mul_zero]
      · rw [dif_neg h, zero_mul]
    · exact fun h => absurd (Finset.mem_univ _) h
  pointwise [squares, k0_pay36, k0_pay3, k0_pay22]
  rw [hrow, e, hz, hc, ← EReal.coe_sub, ← EReal.coe_mul, ← pow_two]

end

/-! ## The sum in slabs -/

/-- Sums over consecutive eights. -/
theorem sum_eights (g : ℕ → EReal) (n : ℕ) :
    ∑ k ∈ Finset.range (8 * n), g k = ∑ i ∈ Finset.range n, ∑ r ∈ Finset.range 8, g (8 * i + r) := by
  induction n with
  | zero => rfl
  | succ n ih => rw [Nat.mul_succ, Finset.sum_range_add, ih, Finset.sum_range_succ (fun i => ∑ r ∈ Finset.range 8, g (8 * i + r))]

section
variable (x : FVec Ideal S512x512 .f32) (t : Fin 512)

/-- Column `t`, continued by zeros. -/
def col (n : ℕ) : EReal := if h : n < 512 then x (ix2 ⟨n, h⟩ t) else 0

theorem slab_eq (i : Fin 64) (r : Fin 8) : slab x i (ix2 r t) = col x t (8 * i.val + r.val) := by
  have h : 8 * i.val + r.val < 512 := by have := i.isLt; have := r.isLt; omega
  rw [col, dif_pos h]
  pointwise [slab]

theorem part_eq (b : ℕ) (r : Fin 8) : ∀ (k : ℕ) (h : 16 * b + k < 64),
    part x b k h (ix2 r t) = ∑ i ∈ Finset.range (k + 1), col x t (8 * (16 * b + i) + r.val)
  | 0, h => by rw [part, slab_eq, Finset.sum_range_one]; rfl
  | k + 1, h => by
    rw [Finset.sum_range_succ, ← part_eq b r k (Nat.lt_of_succ_lt h), ← slab_eq x t ⟨16 * b + (k + 1), h⟩ r]
    rfl

theorem fold8_eq (p : FVec Ideal S8x512 .f32) : fold8 p (ix2 0 t) = ∑ r : Fin 8, p (ix2 r t) := by
  pointwise [fold8, row8]
  rw [Fin.sum_univ_eight]
  abel

theorem quarter_eq (b : Fin 4) :
    quarter x b (ix2 0 t) = ∑ i ∈ Finset.range 16, ∑ r ∈ Finset.range 8, col x t (8 * (16 * b.val + i) + r) := by
  rw [quarter, fold8_eq, Finset.sum_comm, ← Fin.sum_univ_eq_sum_range (fun r => ∑ i ∈ Finset.range 16, col x t (8 * (16 * b.val + i) + r))]
  exact Finset.sum_congr rfl fun r _ => part_eq x t b.val r 15 _

/-- THE SUM: the kernel's order of adding a column up is no matter. -/
theorem root_eq : root x (ix2 0 t) = Ideal.sqrt (∑ d : Fin 512, x (ix2 d t)) := by
  have e : (∑ d : Fin 512, x (ix2 d t)) = ∑ k ∈ Finset.range (8 * 64), col x t k := by
    rw [← Fin.sum_univ_eq_sum_range]
    exact Finset.sum_congr rfl fun d _ => by rw [col, dif_pos d.isLt]
  rw [e, sum_eights, show 64 = 16 + 16 + 16 + 16 from rfl, Finset.sum_range_add, Finset.sum_range_add, Finset.sum_range_add]
  pointwise [root]
  rw [quarter_eq, quarter_eq, quarter_eq, quarter_eq, show 16 * (0 : Fin 4).val = 0 from rfl,
    show 16 * (1 : Fin 4).val = 16 from rfl, show 16 * (2 : Fin 4).val = 32 from rfl, show 16 * (3 : Fin 4).val = 48 from rfl]
  simp only [Nat.zero_add]

end

end Cert.KernelIdeal.Body

end
-- ==== Proof.Best.lean ====
/- The choice among the candidates over the reals: the first candidate is already the closest row, and no other
   candidate displaces it. -/
module

public import proofs.«01_k».proof.Proof.Reads

@[expose] public section

set_option maxRecDepth 16384

noncomputable section

namespace Cert.KernelIdeal.Body

open Cert.KernelIdeal Cert.KernelIdeal.Gen Cert.First Idealize.ShloMosaic Idealize.ShloMosaic.TcCoe Idealize.SL.Sem

section
variable (z c : FVec Ideal S512x512 .f32) (Z C : Fin 512 → Fin 512 → ℝ)
variable (hz : ∀ t d, z (ix2 t d) = (Z t d : EReal)) (hc : ∀ n d, c (ix2 n d) = (C n d : EReal))

theorem sq_nonneg (n t : Fin 512) : 0 ≤ sq Z C n t := Finset.sum_nonneg fun _ _ => _root_.sq_nonneg _

include hz hc in
/-- THE DISTANCE of a token to the row whose number it is given. -/
theorem dist_eq (row : IVec S1x512 32) (t i : Fin 512) (hrow : row (ix2 0 t) = BitVec.ofNat 32 i.val) :
    dist z c row (ix2 0 t) = ((Real.sqrt (sq Z C i t) : ℝ) : EReal) := by
  rw [dist, root_eq, Finset.sum_congr rfl fun d _ => squares_eq z c Z C hz hc row t i hrow d, coe_sum, ← sq, Ideal.sqrt_coe,
    if_neg (not_lt.mpr (sq_nonneg Z C i t))]

/-- A row at a distance not smaller than the closest one's, and not before it at the same distance, is not better. -/
theorem not_better (t i k : Fin 512) (hi : sq Z C i t ≤ sq Z C k t ∧ (sq Z C k t = sq Z C i t → i ≤ k)) :
    IntOp.ori (Ideal.cmp .olt ((Real.sqrt (sq Z C k t) : ℝ) : EReal) ((Real.sqrt (sq Z C i t) : ℝ) : EReal))
      (IntOp.andi (Ideal.cmp .oeq ((Real.sqrt (sq Z C k t) : ℝ) : EReal) ((Real.sqrt (sq Z C i t) : ℝ) : EReal))
        (IntOp.cmpi .slt (BitVec.ofNat 32 k.val) (BitVec.ofNat 32 i.val))) = 0#1 := by
  have hlt : ¬ ((Real.sqrt (sq Z C k t) : ℝ) : EReal) < ((Real.sqrt (sq Z C i t) : ℝ) : EReal) :=
    not_lt.mpr (EReal.coe_le_coe_iff.mpr (Real.sqrt_le_sqrt hi.1))
  show IntOp.ori (BitVec.ofBool (decide (((Real.sqrt (sq Z C k t) : ℝ) : EReal) < ((Real.sqrt (sq Z C i t) : ℝ) : EReal))))
    (IntOp.andi (BitVec.ofBool (decide (((Real.sqrt (sq Z C k t) : ℝ) : EReal) = ((Real.sqrt (sq Z C i t) : ℝ) : EReal))))
      (BitVec.ofBool (decide ((BitVec.ofNat 32 k.val).toInt < (BitVec.ofNat 32 i.val).toInt)))) = 0#1
  rw [decide_eq_false hlt]
  by_cases he : ((Real.sqrt (sq Z C k t) : ℝ) : EReal) = ((Real.sqrt (sq Z C i t) : ℝ) : EReal)
  · have hs : sq Z C k t = sq Z C i t :=
      (Real.sqrt_inj (sq_nonneg Z C k t) (sq_nonneg Z C i t)).mp (EReal.coe_eq_coe_iff.mp he)
    have hn : ¬ (BitVec.ofNat 32 k.val).toInt < (BitVec.ofNat 32 i.val).toInt := by
      rw [toInt_fin, toInt_fin]
      have h := hi.2 hs
      rw [Fin.le_def] at h
      omega
    rw [decide_eq_true he, decide_eq_false hn]; rfl
  · rw [decide_eq_false he]
    cases decide ((BitVec.ofNat 32 k.val).toInt < (BitVec.ofNat 32 i.val).toInt) <;> rfl

include hz hc in
/-- The closest row stays the best one whatever the further candidates are. -/
theorem best_first (t i : Fin 512) (hi : ∀ k, sq Z C i t ≤ sq Z C k t ∧ (sq Z C k t = sq Z C i t → i ≤ k))
    (h0 : cand z c 0 (ix2 0 t) = BitVec.ofNat 32 i.val) : ∀ n,
    (best z c n).1 (ix2 0 t) = ((Real.sqrt (sq Z C i t) : ℝ) : EReal) ∧ (best z c n).2 (ix2 0 t) = BitVec.ofNat 32 i.val
  | 0 => by
    have e1 : (best z c 0).1 = dist z c (cand z c 0) := by rw [best_zero]
    have e2 : (best z c 0).2 = cand z c 0 := by rw [best_zero]
    rw [e1, e2]
    exact ⟨dist_eq z c Z C hz hc _ t i h0, h0⟩
  | n + 1 => by
    obtain ⟨h1, h2⟩ := best_first t i hi h0 n
    obtain ⟨k, hk⟩ := cand_row z c (n + 1) t
    have hb : better (dist z c (cand z c (n + 1))) (best z c n).1 (cand z c (n + 1)) (best z c n).2 (ix2 0 t) = 0#1 := by
      show IntOp.ori (Ideal.cmp .olt (dist z c (cand z c (n + 1)) (ix2 0 t)) ((best z c n).1 (ix2 0 t)))
        (IntOp.andi (Ideal.cmp .oeq (dist z c (cand z c (n + 1)) (ix2 0 t)) ((best z c n).1 (ix2 0 t)))
          (IntOp.cmpi .slt (cand z c (n + 1) (ix2 0 t)) ((best z c n).2 (ix2 0 t)))) = 0#1
      rw [h1, h2, hk, dist_eq z c Z C hz hc _ t k hk]
      exact not_better Z C t i k (hi k)
    have hs := best_succ (F := Ideal) z c n _ _ _ _ rfl rfl rfl rfl
    rw [← hs.1, ← hs.2]
    constructor
    · show Scalar.select _ _ _ = _
      rw [hb]; exact h1
    · show Scalar.select _ _ _ = _
      rw [hb]; exact h2

include hz hc in
/-- THE KERNEL'S ROW NUMBER of a token is the first row at the smallest squared distance. -/
theorem chosen_isFirst (t : Fin 512) : IsFirst (fun n => ((sq Z C n t : ℝ) : EReal)) ((best z c 5).2 (ix2 0 t)) := by
  have h : IsFirst (fun n => ((sq Z C n t : ℝ) : EReal)) (cand z c 0 (ix2 0 t)) := by
    refine (pick_isFirst (keys z c 0) t).of_order (fun a b hab => ?_) fun a b hab => ?_
    · rw [keys, key_eq z c Z C hz hc, key_eq z c Z C hz hc, EReal.coe_le_coe_iff] at hab
      rw [EReal.coe_le_coe_iff]; linarith
    · rw [EReal.coe_eq_coe_iff] at hab
      rw [keys, key_eq z c Z C hz hc, key_eq z c Z C hz hc, hab]
  obtain ⟨i, h0, hi⟩ := h
  refine ⟨i, (best_first z c Z C hz hc t i (fun k => ?_) h0 5).2, hi⟩
  exact ⟨EReal.coe_le_coe_iff.mp (hi k).1, fun e => (hi k).2 (congrArg _ e)⟩

end

/-- The one-hot row of a token with the row number `i`. -/
theorem oneAt_eq (idx : IVec S1x512 32) (t i d : Fin 512) (hi : idx (ix2 0 t) = BitVec.ofNat 32 i.val) :
    oneAt (F := Ideal) idx (ix2 t d) = if d = i then 1 else 0 := by
  pointwise [oneAt]
  rw [hi, cmpi_numbers, flag]

end Cert.KernelIdeal.Body

end
-- ==== Proof.RefRun.lean ====
/- What the reference program leaves in its result arrays, as one composed term of its arguments:
   its host operations listed in order, run, and read back. -/
module

public import proofs.«01_k».proof.Proof.Gen.ReferenceIdeal
public import Idealize.ShloMosaic.Lib.StableHlo.Run

@[expose] public section

set_option maxRecDepth 16384

noncomputable section

namespace Cert.ReferenceIdeal.Value

open Cert.ReferenceIdeal Cert.ReferenceIdeal.Gen Idealize.ShloMosaic Idealize.ShloMosaic.TcCoe
open Idealize.SL.Sem Idealize.ShloMosaic.StableHlo

variable {F : FTy → Type} [FloatOps F]

/-- The codebook row minus the token, for every token and every row. -/
def diffs (z : Vec F S2x256x512 .f32) (c : Vec F S512x512 .f32) : FVec F S512x512x512 .f32 :=
  subf
    (broadcastInDim S512x512x512 ![0, 1, 2] bcast_S1x512x512_S512x512x512_0_1_2
      (broadcastInDim S1x512x512 ![1, 2] bcast_S512x512_S1x512x512_1_2 c))
    (broadcastInDim S512x512x512 ![0, 1, 2] bcast_S512x1x512_S512x512x512_0_1_2
      (broadcastInDim S512x1x512 ![0, 2] bcast_S512x512_S512x1x512_0_2
        (shapeCast S512x512 z shapeCasts_S2x256x512_S512x512)))

/-- The distance of every token to every codebook row: the root of the summed squares. -/
def dists (z : Vec F S2x256x512 .f32) (c : Vec F S512x512 .f32) : FVec F S512x512 .f32 :=
  Host.sqrt (Host.reduceAdd (mulf (diffs z c) (diffs z c)) (constant S_ .f32 0x00000000#32)
    reducesTo_S512x512x512_S512x512_d2 h_S_)

/-- The number of the closest row of every token. -/
def nearest (z : Vec F S2x256x512 .f32) (c : Vec F S512x512 .f32) : IVec S512 32 := fun j =>
  (Host.argReduce reducer_argmin_f32_i32 (dists z c) (iotaInDim S512x512 32 1) (constant S_ .f32 0x7F800000#32)
    (constantI S_ 32 0#32) reducesTo_S512x512_S512_d1 h_S_ j).2

/-- The identity matrix. -/
def eye : FVec F S512x512 .f32 :=
  uitofp .f32 (cmpi .eq (addi (iotaInDim S512x512 32 0) (broadcastInDim S512x512 ![] bcast_S_S512x512 (constantI S_ 32 0#32)))
    (iotaInDim S512x512 32 1))

/-- The row numbers that the take looks up, as a column: a negative number counts from the end. -/
def lookup (i : IVec S512 32) : IVec S512x1 32 :=
  broadcastInDim S512x1 ![0] bcast_S512_S512x1_0
    (select (cmpi .slt i (broadcastInDim S512 ![] bcast_S_S512 (constantI S_ 32 0#32)))
      (addi i (broadcastInDim S512 ![] bcast_S_S512 (constantI S_ 32 512#32))) i)

/-- Which of the numbers looked up are row numbers. -/
def inside (i : IVec S512 32) : IVec S512 1 :=
  Host.reduce IntOp.andi
    (andi (cmpi .sge (lookup i) (broadcastInDim S512x1 ![] bcast_S_S512x1 (constantI S_ 32 0#32)))
      (cmpi .sle (lookup i) (broadcastInDim S512x1 ![0, 1] bcast_S1x1_S512x1_0_1
        (broadcastInDim S1x1 ![1] bcast_S1_S1x1_1 (constantI S1 32 511#32)))))
    (constantI S_ 1 1#1) reducesTo_S512x1_S512_d1 h_S_

/-- The identity's rows taken at the numbers `i`. -/
def oneHot (i : IVec S512 32) : FVec F S512x512 .f32 :=
  select (broadcastInDim S512x512 ![0] bcast_S512_S512x512_0 (inside i))
    (Host.gather gather_S512x512_S512x1_S512x512_1_0_n_n_0_1_1512 eye (lookup i))
    (broadcastInDim S512x512 ![] bcast_S_S512x512 (constant S_ .f32 0x7FC00000#32))

/-- The reference's host operations, in order; a called function's stand where it is called. -/
abbrev steps : List (HloOp τ sig (Elt F)) :=
  [ reshape main_arg0 main_v0 (rfl : (.f32 : EltTy) = .f32) shapeCasts_S2x256x512_S512x512,
    unary main_arg1 main_v1 (broadcastInDim S1x512x512 ![1, 2] bcast_S512x512_S1x512x512_1_2 : (⟨S512x512, .f32⟩ : BufTy).Contents (Elt F) → (⟨S1x512x512, .f32⟩ : BufTy).Contents (Elt F)),
    unary main_v0 main_v2 (broadcastInDim S512x1x512 ![0, 2] bcast_S512x512_S512x1x512_0_2 : (⟨S512x512, .f32⟩ : BufTy).Contents (Elt F) → (⟨S512x1x512, .f32⟩ : BufTy).Contents (Elt F)),
    unary main_v1 main_v3 (broadcastInDim S512x512x512 ![0, 1, 2] bcast_S1x512x512_S512x512x512_0_1_2 : (⟨S1x512x512, .f32⟩ : BufTy).Contents (Elt F) → (⟨S512x512x512, .f32⟩ : BufTy).Contents (Elt F)),
    unary main_v2 main_v4 (broadcastInDim S512x512x512 ![0, 1, 2] bcast_S512x1x512_S512x512x512_0_1_2 : (⟨S512x1x512, .f32⟩ : BufTy).Contents (Elt F) → (⟨S512x512x512, .f32⟩ : BufTy).Contents (Elt F)),
    binary main_v3 main_v4 main_v5 (subf : (⟨S512x512x512, .f32⟩ : BufTy).Contents (Elt F) → (⟨S512x512x512, .f32⟩ : BufTy).Contents (Elt F) → (⟨S512x512x512, .f32⟩ : BufTy).Contents (Elt F)),
    TRef.binary (TRef.of (T := ⟨S512x512x512, .f32⟩) main_v5) (TRef.of (T := ⟨S512x512x512, .f32⟩) main_v5) (TRef.of (T := ⟨S512x512x512, .f32⟩) main_call0_v0) mulf,
    TRef.nullary (TRef.of (T := ⟨S_, .f32⟩) main_call0_cst) (constant S_ .f32 0x00000000#32),
    TRef.binary (TRef.of (T := ⟨S512x512x512, .f32⟩) main_call0_v0) (TRef.of (T := ⟨S_, .f32⟩) main_call0_cst) (TRef.of (T := ⟨S512x512, .f32⟩) main_call0_v1) (fun x v => Host.reduceAdd x v reducesTo_S512x512x512_S512x512_d2 h_S_),
    TRef.unary (TRef.of (T := ⟨S512x512, .f32⟩) main_call0_v1) (TRef.of (T := ⟨S512x512, .f32⟩) main_v6) Host.sqrt,
    TRef.nullary (TRef.of (T := ⟨S512x512, .i32⟩) main_call1_v0) (iotaInDim S512x512 32 1),
    TRef.nullary (TRef.of (T := ⟨S_, .f32⟩) main_call1_cst) (constant S_ .f32 0x7F800000#32),
    TRef.nullary (TRef.of (T := ⟨S_, .i32⟩) main_call1_c) (constantI S_ 32 0#32),
    TRef.quaternary (TRef.of (T := ⟨S512x512, .f32⟩) main_v6) (TRef.of (T := ⟨S512x512, .i32⟩) main_call1_v0) (TRef.of (T := ⟨S_, .f32⟩) main_call1_cst) (TRef.of (T := ⟨S_, .i32⟩) main_call1_c) (TRef.of (T := ⟨S512, .f32⟩) main_call1_v1_0)
      (fun x y u v j => (Host.argReduce reducer_argmin_f32_i32 x y u v reducesTo_S512x512_S512_d1 h_S_ j).1),
    TRef.quaternary (TRef.of (T := ⟨S512x512, .f32⟩) main_v6) (TRef.of (T := ⟨S512x512, .i32⟩) main_call1_v0) (TRef.of (T := ⟨S_, .f32⟩) main_call1_cst) (TRef.of (T := ⟨S_, .i32⟩) main_call1_c) (TRef.of (T := ⟨S512, .i32⟩) main_v7)
      (fun x y u v j => (Host.argReduce reducer_argmin_f32_i32 x y u v reducesTo_S512x512_S512_d1 h_S_ j).2),
    nullary main_v8 (iotaInDim S512x512 32 0),
    nullary main_v9 (iotaInDim S512x512 32 1),
    nullary main_c (constantI S_ 32 0#32),
    unary main_c main_v10 (broadcastInDim S512x512 ![] bcast_S_S512x512 : (⟨S_, .i32⟩ : BufTy).Contents (Elt F) → (⟨S512x512, .i32⟩ : BufTy).Contents (Elt F)),
    binary main_v8 main_v10 main_v11 (addi : (⟨S512x512, .i32⟩ : BufTy).Contents (Elt F) → (⟨S512x512, .i32⟩ : BufTy).Contents (Elt F) → (⟨S512x512, .i32⟩ : BufTy).Contents (Elt F)),
    binary main_v11 main_v9 main_v12 (cmpi .eq : (⟨S512x512, .i32⟩ : BufTy).Contents (Elt F) → (⟨S512x512, .i32⟩ : BufTy).Contents (Elt F) → (⟨S512x512, .i1⟩ : BufTy).Contents (Elt F)),
    unary main_v12 main_v13 (uitofp .f32 : (⟨S512x512, .i1⟩ : BufTy).Contents (Elt F) → (⟨S512x512, .f32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S512, .i32⟩) main_call2_v0) (broadcastInDim S512 ![] bcast_S_S512),
    TRef.binary (TRef.of (T := ⟨S512, .i32⟩) main_v7) (TRef.of (T := ⟨S512, .i32⟩) main_call2_v0) (TRef.of (T := ⟨S512, .i1⟩) main_call2_v1) (cmpi .slt),
    TRef.nullary (TRef.of (T := ⟨S_, .i32⟩) main_call2_c_0) (constantI S_ 32 512#32),
    TRef.unary (TRef.of (T := ⟨S_, .i32⟩) main_call2_c_0) (TRef.of (T := ⟨S512, .i32⟩) main_call2_v2) (broadcastInDim S512 ![] bcast_S_S512),
    TRef.binary (TRef.of (T := ⟨S512, .i32⟩) main_v7) (TRef.of (T := ⟨S512, .i32⟩) main_call2_v2) (TRef.of (T := ⟨S512, .i32⟩) main_call2_v3) addi,
    TRef.ternary (TRef.of (T := ⟨S512, .i1⟩) main_call2_v1) (TRef.of (T := ⟨S512, .i32⟩) main_call2_v3) (TRef.of (T := ⟨S512, .i32⟩) main_v7) (TRef.of (T := ⟨S512, .i32⟩) main_call2_v4) select,
    TRef.unary (TRef.of (T := ⟨S512, .i32⟩) main_call2_v4) (TRef.of (T := ⟨S512x1, .i32⟩) main_call2_v5) (broadcastInDim S512x1 ![0] bcast_S512_S512x1_0),
    TRef.nullary (TRef.of (T := ⟨S1, .i32⟩) main_call2_c_1) (constantI S1 32 511#32),
    TRef.nullary (TRef.of (T := ⟨S_, .i32⟩) main_call2_c_2) (constantI S_ 32 0#32),
    TRef.unary (TRef.of (T := ⟨S_, .i32⟩) main_call2_c_2) (TRef.of (T := ⟨S512x1, .i32⟩) main_call2_v6) (broadcastInDim S512x1 ![] bcast_S_S512x1),
    TRef.binary (TRef.of (T := ⟨S512x1, .i32⟩) main_call2_v5) (TRef.of (T := ⟨S512x1, .i32⟩) main_call2_v6) (TRef.of (T := ⟨S512x1, .i1⟩) main_call2_v7) (cmpi .sge),
    TRef.unary (TRef.of (T := ⟨S1, .i32⟩) main_call2_c_1) (TRef.of (T := ⟨S1x1, .i32⟩) main_call2_v8) (broadcastInDim S1x1 ![1] bcast_S1_S1x1_1),
    TRef.unary (TRef.of (T := ⟨S1x1, .i32⟩) main_call2_v8) (TRef.of (T := ⟨S512x1, .i32⟩) main_call2_v9) (broadcastInDim S512x1 ![0, 1] bcast_S1x1_S512x1_0_1),
    TRef.binary (TRef.of (T := ⟨S512x1, .i32⟩) main_call2_v5) (TRef.of (T := ⟨S512x1, .i32⟩) main_call2_v9) (TRef.of (T := ⟨S512x1, .i1⟩) main_call2_v10) (cmpi .sle),
    TRef.binary (TRef.of (T := ⟨S512x1, .i1⟩) main_call2_v7) (TRef.of (T := ⟨S512x1, .i1⟩) main_call2_v10) (TRef.of (T := ⟨S512x1, .i1⟩) main_call2_v11) andi,
    TRef.nullary (TRef.of (T := ⟨S_, .i1⟩) main_call2_c_3) (constantI S_ 1 1#1),
    TRef.binary (TRef.of (T := ⟨S512x1, .i1⟩) main_call2_v11) (TRef.of (T := ⟨S_, .i1⟩) main_call2_c_3) (TRef.of (T := ⟨S512, .i1⟩) main_call2_v12) (fun x v => Host.reduce IntOp.andi x v reducesTo_S512x1_S512_d1 h_S_),
    TRef.binary (TRef.of (T := ⟨S512x512, .f32⟩) main_v13) (TRef.of (T := ⟨S512x1, .i32⟩) main_call2_v5) (TRef.of (T := ⟨S512x512, .f32⟩) main_call2_v13) (fun x i => Host.gather gather_S512x512_S512x1_S512x512_1_0_n_n_0_1_1512 x i),
    TRef.unary (TRef.of (T := ⟨S512, .i1⟩) main_call2_v12) (TRef.of (T := ⟨S512x512, .i1⟩) main_call2_v14) (broadcastInDim S512x512 ![0] bcast_S512_S512x512_0),
    TRef.nullary (TRef.of (T := ⟨S_, .f32⟩) main_call2_cst) (constant S_ .f32 0x7FC00000#32),
    TRef.unary (TRef.of (T := ⟨S_, .f32⟩) main_call2_cst) (TRef.of (T := ⟨S512x512, .f32⟩) main_call2_v15) (broadcastInDim S512x512 ![] bcast_S_S512x512),
    TRef.ternary (TRef.of (T := ⟨S512x512, .i1⟩) main_call2_v14) (TRef.of (T := ⟨S512x512, .f32⟩) main_call2_v13) (TRef.of (T := ⟨S512x512, .f32⟩) main_call2_v15) (TRef.of (T := ⟨S512x512, .f32⟩) main_v14) select ]

set_option maxHeartbeats 4000000 in
theorem main_steps (c : Dev nD) : main (F := F) c = seq steps := rfl

theorem no_scopedRefs : (Finset.univ.filter fun b : Ref sig .tc => b.isScoped) = ∅ := by decide

theorem no_scopedSems : (Finset.univ.filter fun sm : SemLoc sig => sm.isScoped .tc) = ∅ := by decide

theorem steps_sub : (steps : List (HloOp τ sig (Elt F))).Forall fun op => op.bufs ⊆ tcRefs τ sig :=
  ⟨reshape_bufs_sub .., unary_bufs_sub .., unary_bufs_sub .., unary_bufs_sub .., unary_bufs_sub ..,
    binary_bufs_sub .., binary_bufs_sub .., nullary_bufs_sub .., binary_bufs_sub .., unary_bufs_sub ..,
    nullary_bufs_sub .., nullary_bufs_sub .., nullary_bufs_sub .., quaternary_bufs_sub .., quaternary_bufs_sub ..,
    nullary_bufs_sub .., nullary_bufs_sub .., nullary_bufs_sub .., unary_bufs_sub .., binary_bufs_sub ..,
    binary_bufs_sub .., unary_bufs_sub .., nullary_bufs_sub .., unary_bufs_sub .., binary_bufs_sub ..,
    nullary_bufs_sub .., unary_bufs_sub .., binary_bufs_sub .., ternary_bufs_sub .., unary_bufs_sub ..,
    nullary_bufs_sub .., nullary_bufs_sub .., unary_bufs_sub .., binary_bufs_sub .., unary_bufs_sub ..,
    unary_bufs_sub .., binary_bufs_sub .., binary_bufs_sub .., nullary_bufs_sub .., binary_bufs_sub ..,
    binary_bufs_sub .., unary_bufs_sub .., nullary_bufs_sub .., unary_bufs_sub .., ternary_bufs_sub ..⟩

set_option maxHeartbeats 2000000 in
/-- Every execution of the reference ends with the one-hot rows and the row numbers of its arguments, which
    it leaves unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14)
          = oneHot (nearest (m ((c.tc : Thread nD τ).loc main_arg0)) (m ((c.tc : Thread nD τ).loc main_arg1)))
      ∧ r.2.mem ((c.tc : Thread nD τ).loc main_v7)
          = nearest (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_)
    (run_seq no_scopedRefs no_scopedSems defs main (fun _ => steps) main_steps (fun _ => steps_sub) m ρ)
  refine ⟨(h c main_v14).trans ?_, (h c main_v7).trans ?_, (h c main_arg0).trans ?_, (h c main_arg1).trans ?_⟩
  all_goals
    simp only [steps, TRef.quaternary, TRef.binary, TRef.nullary, TRef.ternary, TRef.unary, TRef.toBuf, TRef.ofBuf, cast_eq]
    after_results_simp <;> rfl

/-- The reference has no semaphore: every counter is trivially zero. -/
theorem no_sems (f : GSem nD τ sig → Int) : f = fun _ => 0 :=
  funext fun g => by
    have h : ∀ sm : SemLoc sig, False := by decide
    exact (h g.2).elim

/-- The reference's frame: it runs, leaves its arguments unchanged, and every counter at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2.2, no_sems _⟩) (run m ρ)

end Cert.ReferenceIdeal.Value

end
-- ==== Proof.RefReads.lean ====
/- The reference's results read over the reals: the number of a token's closest row, and its one-hot row. -/
module

public import proofs.«01_k».proof.Proof.RefRun
public import proofs.«01_k».proof.Proof.First

@[expose] public section

set_option maxRecDepth 16384

noncomputable section

namespace Cert.ReferenceIdeal.Value

open Cert.ReferenceIdeal Cert.ReferenceIdeal.Gen Cert.First Idealize.ShloMosaic Idealize.ShloMosaic.TcCoe Idealize.SL.Sem

/-- The reference's reducer keeps the earlier of two pairs. -/
theorem reducer_before (p q : EReal × BitVec 32) :
    (reducer_argmin_f32_i32 (F := Ideal) p q = p ∨ reducer_argmin_f32_i32 (F := Ideal) p q = q)
      ∧ Before (reducer_argmin_f32_i32 (F := Ideal) p q) p ∧ Before (reducer_argmin_f32_i32 (F := Ideal) p q) q := by
  obtain ⟨a, i⟩ := p
  obtain ⟨b, k⟩ := q
  have e : reducer_argmin_f32_i32 (F := Ideal) (a, i) (b, k)
      = if a < b ∨ a = b ∧ i.toInt < k.toInt then (a, i) else (b, k) := by
    show (Scalar.select (IntOp.ori (BitVec.ofBool (decide (a < b))) (BitVec.ofBool (decide (a ≠ a)))) a b,
      Scalar.select (IntOp.ori (IntOp.ori (BitVec.ofBool (decide (a < b))) (BitVec.ofBool (decide (a ≠ a))))
        (IntOp.andi (BitVec.ofBool (decide (a = b))) (BitVec.ofBool (decide (i.toInt < k.toInt))))) i k) = _
    rw [decide_eq_false (fun h : a ≠ a => h rfl)]
    rcases lt_trichotomy a b with h | h | h
    · rw [decide_eq_true h, if_pos (Or.inl h), decide_eq_false (ne_of_lt h)]; cases decide (i.toInt < k.toInt) <;> rfl
    · subst h
      rw [decide_eq_false (lt_irrefl a), decide_eq_true rfl]
      by_cases hk : i.toInt < k.toInt
      · rw [decide_eq_true hk, if_pos (Or.inr ⟨rfl, hk⟩)]; rfl
      · rw [decide_eq_false hk, if_neg (by rintro (h | ⟨-, h⟩); exacts [lt_irrefl a h, hk h])]; rfl
    · rw [decide_eq_false (lt_asymm h), decide_eq_false (ne_of_gt h),
        if_neg (by rintro (h' | ⟨h', -⟩); exacts [lt_asymm h h', ne_of_gt h h'])]
      cases decide (i.toInt < k.toInt) <;> rfl
  rw [e]
  split
  · rename_i h
    exact ⟨Or.inl rfl, Before.refl _, h.imp id fun h => ⟨h.1, le_of_lt h.2⟩⟩
  · rename_i h
    push Not at h
    refine ⟨Or.inr rfl, ?_, Before.refl _⟩
    rcases lt_or_eq_of_le h.1 with h' | h'
    · exact Or.inl h'
    · exact Or.inr ⟨h', h.2 h'.symm⟩

/-- The pairs of a token are its distances with the row numbers. -/
theorem mem_fiber (x : FVec Ideal S512x512 .f32) (t : Fin 512) (p : EReal × BitVec 32) :
    p ∈ Host.argReduceFiber x (iotaInDim S512x512 32 1) reducesTo_S512x512_S512_d1 (ix1 t)
      ↔ ∃ n : Fin 512, p = (x (ix2 t n), BitVec.ofNat 32 n.val) := by
  have hd : ∀ j : S512x512.Idx, reducesTo_S512x512_S512_d1.drop j = ix1 t ↔ ∃ n : Fin 512, j = ix2 t n := by
    intro j
    constructor
    · intro h
      refine ⟨j 1, funext fun a => ?_⟩
      match a with
      | ⟨0, _⟩ => exact congrFun h 0
      | ⟨1, _⟩ => rfl
    · rintro ⟨n, rfl⟩
      funext a
      match a with
      | ⟨0, _⟩ => rfl
  rw [Host.argReduceFiber, List.mem_map]
  constructor
  · rintro ⟨m, hm, rfl⟩
    obtain ⟨n, hn⟩ := (hd _).mp (of_decide_eq_true (List.mem_filter.mp hm).2)
    exact ⟨n, by rw [hn]; rfl⟩
  · rintro ⟨n, rfl⟩
    refine ⟨S512x512.rowMajor (ix2 t n), List.mem_filter.mpr ⟨List.mem_finRange _, decide_eq_true ?_⟩, ?_⟩
    · rw [Equiv.symm_apply_apply]; exact (hd _).mpr ⟨n, rfl⟩
    · rw [Equiv.symm_apply_apply]; rfl

/-- THE REFERENCE'S ROW NUMBER of a token is the first row at the smallest distance. -/
theorem nearest_isFirst (z : Vec Ideal S2x256x512 .f32) (c : Vec Ideal S512x512 .f32) (t : Fin 512) (D : Fin 512 → ℝ)
    (hD : ∀ n, dists z c (ix2 t n) = (D n : EReal)) : IsFirst (fun n => ((D n : ℝ) : EReal)) (nearest z c (ix1 t)) := by
  have htop : constant (F := Ideal) S_ .f32 0x7F800000#32 (Shape.Idx.first h_S_) = ⊤ := by
    show Ideal.ofBits FTy.f32 0x7F800000#32 = ⊤
    simp [Ideal.ofBits, Ideal.ieee]
  rw [nearest, Ideal.argReduce_eq_reduce2, Host.reduce2_eq_foldl_fiber, htop]
  obtain ⟨hm, -, hl⟩ := foldl_before (reducer_argmin_f32_i32 (F := Ideal)) reducer_before
    (Host.argReduceFiber (dists z c) (iotaInDim S512x512 32 1) reducesTo_S512x512_S512_d1 (ix1 t))
    (⊤, constantI S_ 32 0#32 (Shape.Idx.first h_S_))
  generalize List.foldl (reducer_argmin_f32_i32 (F := Ideal)) _ _ = r at hm hl ⊢
  have hb : ∀ n : Fin 512, Before r (((D n : ℝ) : EReal), BitVec.ofNat 32 n.val) := fun n =>
    hl _ ((mem_fiber _ t _).mpr ⟨n, by rw [hD]⟩)
  have hmem : ∃ n : Fin 512, r = (((D n : ℝ) : EReal), BitVec.ofNat 32 n.val) := by
    rcases hm with e | h
    · exfalso
      rcases hb 0 with h | ⟨h, -⟩ <;> rw [e] at h
      · exact not_top_lt h
      · exact EReal.coe_ne_top _ h.symm
    · obtain ⟨n, hn⟩ := (mem_fiber _ t r).mp h
      exact ⟨n, by rw [hn, hD]⟩
  obtain ⟨i, rfl⟩ := hmem
  refine ⟨i, rfl, fun k => ?_⟩
  rcases hb k with h | ⟨h, h'⟩
  · exact ⟨le_of_lt h, fun e => absurd e (ne_of_gt h)⟩
  · refine ⟨le_of_eq h, fun _ => ?_⟩
    rw [toInt_fin, toInt_fin] at h'
    exact_mod_cast h'

/-! ## The one-hot rows -/

/-- Looking a row number up leaves it as it is. -/
theorem lookup_eq (i : IVec S512 32) (t k : Fin 512) (hi : i (ix1 t) = BitVec.ofNat 32 k.val) :
    lookup i (ix2 t 0) = BitVec.ofNat 32 k.val := by
  pointwise [lookup]
  rw [hi, (show IntOp.cmpi .slt (BitVec.ofNat 32 k.val) 0#32 = 0#1 from
    congrArg BitVec.ofBool (decide_eq_false (by rw [toInt_fin, show (0#32).toInt = (0 : ℤ) from by decide]; omega)))]
  rfl

/-- The lookup of a row number is inside the table. -/
theorem inside_eq (i : IVec S512 32) (t k : Fin 512) (hi : i (ix1 t) = BitVec.ofNat 32 k.val) :
    inside i (ix1 t) = 1#1 := by
  have hk := k.isLt
  have h0 : IntOp.cmpi .sge (BitVec.ofNat 32 k.val) 0#32 = 1#1 :=
    congrArg BitVec.ofBool (decide_eq_true (by rw [toInt_fin, show (0#32).toInt = (0 : ℤ) from by decide]; omega))
  have h1 : IntOp.cmpi .sle (BitVec.ofNat 32 k.val) 511#32 = 1#1 :=
    congrArg BitVec.ofBool (decide_eq_true (by rw [toInt_fin, show (511#32).toInt = (511 : ℤ) from by decide]; omega))
  pointwise [inside]
  rw [Finset.univ_unique, Finset.fold_singleton]
  show IntOp.andi (IntOp.andi (IntOp.cmpi .sge (lookup i (ix2 t 0)) 0#32) (IntOp.cmpi .sle (lookup i (ix2 t 0)) 511#32)) 1#1
    = 1#1
  rw [lookup_eq i t k hi, h0, h1]
  rfl

/-- A row taken at a row number is that row. -/
theorem gather_eq (x : FVec Ideal S512x512 .f32) (l : IVec S512x1 32) (t k d : Fin 512)
    (hl : l (ix2 t 0) = BitVec.ofNat 32 k.val) :
    Host.gather gather_S512x512_S512x1_S512x512_1_0_n_n_0_1_1512 x l (ix2 t d) = x (ix2 k d) := by
  refine congrArg x (funext fun a => Fin.ext ?_)
  match a with
  | ⟨0, _⟩ =>
    show min (l (gather_S512x512_S512x1_S512x512_1_0_n_n_0_1_1512.siIdx (ix2 t d) _)).toInt.toNat (512 - 1) = k.val
    have e : ∀ q, gather_S512x512_S512x1_S512x512_1_0_n_n_0_1_1512.siIdx (ix2 t d) q = ix2 t 0 := by
      intro q
      funext b
      match b with
      | ⟨0, _⟩ => rfl
      | ⟨1, _⟩ => exact Subsingleton.elim (α := Fin 1) _ _
    rw [e, hl, toInt_fin]
    have hk := k.isLt
    omega
  | ⟨1, _⟩ => exact (congrArg (· + d.val) (Nat.zero_add 0)).trans (Nat.zero_add d.val)

/-- THE REFERENCE'S ONE-HOT ROW of a token whose row number is `k`. -/
theorem oneHot_eq (i : IVec S512 32) (t k d : Fin 512) (hi : i (ix1 t) = BitVec.ofNat 32 k.val) :
    oneHot (F := Ideal) i (ix2 t d) = if d = k then 1 else 0 := by
  have e : oneHot (F := Ideal) i (ix2 t d) = Scalar.select (inside i (ix1 t))
      (Host.gather gather_S512x512_S512x1_S512x512_1_0_n_n_0_1_1512 (eye (F := Ideal)) (lookup i) (ix2 t d))
      (Ideal.ofBits FTy.f32 0x7FC00000#32) := by
    pointwise [oneHot]
  rw [e, inside_eq i t k hi, gather_eq _ _ t k d (lookup_eq i t k hi)]
  show eye (F := Ideal) (ix2 k d) = _
  pointwise [eye]
  rw [show IntOp.addi (BitVec.ofNat 32 k.val) 0#32 = BitVec.ofNat 32 k.val from BitVec.add_zero _]
  show (((IntOp.cmpi .eq (BitVec.ofNat 32 k.val) (BitVec.ofNat 32 d.val)).toNat : ℝ) : EReal) = _
  show (((BitVec.ofBool (BitVec.ofNat 32 k.val == BitVec.ofNat 32 d.val)).toNat : ℝ) : EReal) = _
  by_cases h : d = k
  · rw [if_pos h, h, beq_self_eq_true, show (BitVec.ofBool true).toNat = 1 from rfl, Nat.cast_one, EReal.coe_one]
  · rw [if_neg h, beq_eq_false_iff_ne.mpr (fun e => h ((ofNat_inj k d).mp e).symm),
      show (BitVec.ofBool false).toNat = 0 from rfl, Nat.cast_zero, EReal.coe_zero]

end Cert.ReferenceIdeal.Value

end
-- ==== Proof.KernelRun.lean ====
/- What the kernel's program leaves in its result arrays: the body's one-hot rows, and its row numbers laid out
   as a list, of the arguments as launched. -/
module

public import proofs.«01_k».proof.Proof.Body

@[expose] public section

set_option maxRecDepth 16384

noncomputable section

namespace Cert.KernelIdeal.Value

open Cert.KernelIdeal Cert.KernelIdeal.Gen Cert.KernelIdeal.Body
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The tokens as the region finds them: the first argument laid out as rows. -/
def tokens (c : Dev nD) : FVec F S512x512 .f32 :=
  shapeCast S512x512 (m ((c.tc : Thread nD τ).loc main_arg0)) shapeCasts_S2x256x512_S512x512

/-- The codebook. -/
def book (c : Dev nD) : FVec F S512x512 .f32 := m ((c.tc : Thread nD τ).loc main_arg1)

/-- The region finds the tokens in its first window's array. -/
theorem V_tokens (c : Dev nD) : V m c main_v0 = tokens m c := by
  show StableHlo.after (List.flatten [hostOps0]) (fun b => m (c, b)) (Proc.devRef .tc main_v0) = _
  simp only [List.flatten_cons, List.flatten_nil, List.append_nil, hostOps0]
  after_results_simp <;> rfl

/-- The one point's block of the first window is the tokens. -/
theorem blk0 (c : Dev nD) (t : Fin cfg0.N) : iblk m c 0 t = tokens m c := by
  refine Eq.trans ?_ (V_tokens m c)
  unfold iblk
  match t with
  | ⟨0, _⟩ =>
    funext x
    refine congrArg (V m c main_v0) (funext fun a => Fin.ext ?_)
    match a with
    | ⟨0, _⟩ => exact (Nat.zero_add _).trans (Nat.one_mul _)
    | ⟨1, _⟩ => exact (Nat.zero_add _).trans (Nat.one_mul _)

/-- The one point's block of the second window is the codebook. -/
theorem blk1 (c : Dev nD) (t : Fin cfg0.N) : iblk m c 1 t = book m c := by
  refine Eq.trans ?_ (V_main_arg1 m c)
  unfold iblk
  match t with
  | ⟨0, _⟩ =>
    funext x
    refine congrArg (V m c main_arg1) (funext fun a => Fin.ext ?_)
    match a with
    | ⟨0, _⟩ => exact (Nat.zero_add _).trans (Nat.one_mul _)
    | ⟨1, _⟩ => exact (Nat.zero_add _).trans (Nat.one_mul _)

/-- The one block of output window 2 starts at the array's start: every index stays where it is. -/
theorem emb2 (t : Fin cfg0.N) (x : S512x512.Idx) : ((cfg0.win 2).blk t).view.emb x = x := by
  match t with
  | ⟨0, _⟩ =>
    refine funext fun a => Fin.ext ?_
    match a with
    | ⟨0, _⟩ => exact (Nat.zero_add _).trans (Nat.one_mul _)
    | ⟨1, _⟩ => exact (Nat.zero_add _).trans (Nat.one_mul _)

/-- So what is written back through it is the contents themselves. -/
theorem cut2 (t : Fin cfg0.N) (G : Vec F S512x512 .f32) :
    (cfg0.win 2).cut (grid0.coords t) G = ((cfg0.win 2).blk t).view.read (Elt F) G := by
  funext x
  exact congrArg G (emb2 t x).symm

/-- After the region, output window 2's array holds the one-hot rows. -/
theorem arr2 (c : Dev nD) : (dats m 0 c).arrAt 2 cfg0.N = out0_2 (tokens m c) (book m c) := by
  refine (dats m 0 c).arrAt_eq_of_cover 2 _ (fun t _ => ?_) fun i => ⟨⟨0, by decide⟩, by decide, ?_⟩
  · show (cfg0.win 2).cut (grid0.coords t) ((dats m 0 c).after 2 t) = _
    rw [after0_2, blk0, blk1]
    exact cut2 t _
  · exact Finset.mem_map.mpr ⟨i, Finset.mem_univ _, emb2 _ i⟩

/-- The one block of output window 3 starts at the array's start: every index stays where it is. -/
theorem emb3 (t : Fin cfg0.N) (x : S1x512.Idx) : ((cfg0.win 3).blk t).view.emb x = x := by
  match t with
  | ⟨0, _⟩ =>
    refine funext fun a => Fin.ext ?_
    match a with
    | ⟨0, _⟩ => exact (Nat.zero_add _).trans (Nat.one_mul _)
    | ⟨1, _⟩ => exact (Nat.zero_add _).trans (Nat.one_mul _)

/-- So what is written back through it is the contents themselves. -/
theorem cut3 (t : Fin cfg0.N) (G : Vec F S1x512 .i32) :
    (cfg0.win 3).cut (grid0.coords t) G = ((cfg0.win 3).blk t).view.read (Elt F) G := by
  funext x
  exact congrArg G (emb3 t x).symm

/-- After the region, output window 3's array holds the row numbers. -/
theorem arr3 (c : Dev nD) : (dats m 0 c).arrAt 3 cfg0.N = out0_3 (tokens m c) (book m c) := by
  refine (dats m 0 c).arrAt_eq_of_cover 3 _ (fun t _ => ?_) fun i => ⟨⟨0, by decide⟩, by decide, ?_⟩
  · show (cfg0.win 3).cut (grid0.coords t) ((dats m 0 c).after 3 t) = _
    rw [after0_3, blk0, blk1]
    exact cut3 t _
  · exact Finset.mem_map.mpr ⟨i, Finset.mem_univ _, emb3 _ i⟩

/-- After the host's last operation the second result holds the row numbers laid out as a list. -/
theorem tail_v2 (c : Dev nD) : Pipeline.afterTail₀ cfgs (dats m) 0 (V0 m) [hostOps1] c main_v2
    = shapeCast S512 (out0_3 (tokens m c) (book m c)) shapeCasts_S1x512_S512 := by
  rw [← arr3 m c]
  unfold Pipeline.afterTail₀
  simp only [List.flatten_cons, List.flatten_nil, List.append_nil, hostOps1]
  after_results_simp
  exact congrArg (fun x => shapeCast S512 x shapeCasts_S1x512_S512) (Pipeline.withArrays_arr spec0 (by decide) c (V0 m c) _ 3)

/-- Every execution of the kernel's program ends with the one-hot rows and the row numbers of its arguments, which it
    leaves unchanged. -/
theorem run : θ_run defs (onTc (τ := τ) (main (F := F))) ⟨m, fun _ => 0, ρ⟩ fun r => ∀ c : Dev nD,
      r.2.mem ((c.tc : Thread nD τ).loc main_v1_0) = out0_2 (tokens m c) (book m c)
      ∧ r.2.mem ((c.tc : Thread nD τ).loc main_v2)
          = shapeCast S512 (out0_3 (tokens m c) (book m c)) shapeCasts_S1x512_S512
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun r h c => ⟨((h.2 c).1 2).trans (arr2 m c),
      ((h.2 c).2 main_v2 (Pipeline.mem_restRefs_of main_v2 (by decide) (by decide))).trans (tail_v2 m c),
      (h.1 c).1, (h.1 c).2⟩)
    (θ_run_and (unchanged m ρ) (run_main m ρ))

end Cert.KernelIdeal.Value

end
-- ==== Proof.Equal.lean ====
/- The precondition read (every entry of both arguments is a real number), and with it the equality of the kernel's
   results and the reference's. -/
module

public import proofs.«01_k».proof.Pre_finite
public import proofs.«01_k».proof.Proof.Best
public import proofs.«01_k».proof.Proof.RefReads
public import proofs.«01_k».proof.Proof.KernelRun
public import Idealize.ShloMosaic.Lib.ReduceAll

@[expose] public section

set_option maxRecDepth 16384

noncomputable section

namespace Cert.Equal

open Cert.First Idealize.ShloMosaic Idealize.ShloMosaic.TcCoe Idealize.SL.Sem
open Cert.KernelIdeal.Body (best oneAt sq)

/-- The shape relations of the precondition's operations. -/
theorem preFacts : Cert.Pre_finite.Facts where
  bcast_S_S2x256x512 := by decide
  reducesTo_S2x256x512_S_d0_1_2 := by decide
  h_S_ := by decide
  bcast_S_S512x512 := by decide
  reducesTo_S512x512_S_d0_1 := by decide

/-- A value whose size is below infinity is a real number. -/
theorem real_of_lt (x : EReal) (h : Ideal.cmp .olt (max x (-x)) (Ideal.ofBits FTy.f32 0x7F800000#32) = 1#1) :
    x = (x.toReal : EReal) := by
  rw [Cert.KernelIdeal.Body.ofBits_inf] at h
  have hlt : max x (-x) < ⊤ := by
    by_contra hn
    have h' : BitVec.ofBool (decide (max x (-x) < ⊤)) = 1#1 := h
    rw [decide_eq_false hn] at h'
    exact absurd h' (by decide)
  refine (EReal.coe_toReal (fun e => ?_) fun e => ?_).symm
  · subst e; simp at hlt
  · subst e; simp at hlt

instance : Subsingleton Cert.Pre_finite.S_.Idx := ⟨fun a b => funext fun k => k.elim0⟩

/-- THE PRECONDITION says that every entry of both arguments is a real number. -/
theorem reals [Cert.Pre_finite.Facts] (z : FVec Ideal Cert.Pre_finite.S2x256x512 .f32) (c : FVec Ideal Cert.Pre_finite.S512x512 .f32)
    (h : Cert.Pre_finite.fn (F := Ideal) z c = fun _ => 1#1) :
    (∀ i, z i = ((z i).toReal : EReal)) ∧ ∀ i, c i = ((c i).toReal : EReal) := by
  obtain ⟨h1, h2⟩ := IntOp.andi_eq_one.mp (congrFun h fun k => k.elim0)
  exact ⟨fun i => real_of_lt _ (Host.reduce_andi_all _ _ _ _ _ h1 i), fun i => real_of_lt _ (Host.reduce_andi_all _ _ _ _ _ h2 i)⟩

section
variable (z : FVec Ideal Cert.ReferenceIdeal.S2x256x512 .f32) (c : FVec Ideal Cert.KernelIdeal.S512x512 .f32)
variable (hz : ∀ i, z i = ((z i).toReal : EReal)) (hc : ∀ i, c i = ((c i).toReal : EReal))

/-- The token's real entries: token `t` is row `t % 256` of batch entry `t / 256`. -/
def tok (t d : Fin 512) : ℝ :=
  (z (ix3 ⟨t.val / 256, by have := t.isLt; omega⟩ ⟨t.val % 256, Nat.mod_lt _ (by decide)⟩ d)).toReal

/-- The codebook's real entries. -/
def code (n d : Fin 512) : ℝ := (c (ix2 n d)).toReal

/-- The tokens as the kernel is given them. -/
def rows : FVec Ideal Cert.KernelIdeal.S512x512 .f32 :=
  shapeCast Cert.KernelIdeal.S512x512 z Cert.KernelIdeal.Gen.facts.shapeCasts_S2x256x512_S512x512

include hz in
theorem rows_eq (t d : Fin 512) : rows z (ix2 t d) = (tok z t d : EReal) := by
  have e : rows z (ix2 t d) = z (ix3 ⟨t.val / 256, by have := t.isLt; omega⟩ ⟨t.val % 256, Nat.mod_lt _ (by decide)⟩ d) := by
    pointwise [rows]
  rw [e, hz, tok]

include hz hc in
/-- The reference's distance. -/
theorem dists_eq (t n : Fin 512) :
    Cert.ReferenceIdeal.Value.dists (F := Ideal) z c (ix2 t n) = ((Real.sqrt (sq (tok z) (code c) n t) : ℝ) : EReal) := by
  have e : Cert.ReferenceIdeal.Value.dists (F := Ideal) z c (ix2 t n) = Ideal.sqrt (∑ x : Fin 512,
      (c (ix2 n x) - z (ix3 ⟨t.val / 256, by have := t.isLt; omega⟩ ⟨t.val % 256, Nat.mod_lt _ (by decide)⟩ x))
        * (c (ix2 n x) - z (ix3 ⟨t.val / 256, by have := t.isLt; omega⟩ ⟨t.val % 256, Nat.mod_lt _ (by decide)⟩ x))) := by
    pointwise [Cert.ReferenceIdeal.Value.dists, Cert.ReferenceIdeal.Value.diffs]
  have s : ∀ x : Fin 512, (c (ix2 n x) - z (ix3 ⟨t.val / 256, by have := t.isLt; omega⟩ ⟨t.val % 256, Nat.mod_lt _ (by decide)⟩ x))
      * (c (ix2 n x) - z (ix3 ⟨t.val / 256, by have := t.isLt; omega⟩ ⟨t.val % 256, Nat.mod_lt _ (by decide)⟩ x))
      = (((code c n x - tok z t x) ^ 2 : ℝ) : EReal) := fun x => by
    rw [hz, hc (ix2 n x), ← EReal.coe_sub, ← EReal.coe_mul, ← pow_two]; rfl
  rw [e, Finset.sum_congr rfl fun x _ => s x, Cert.KernelIdeal.Body.coe_sum, ← Cert.KernelIdeal.Body.sq, Ideal.sqrt_coe,
    if_neg (not_lt.mpr (Cert.KernelIdeal.Body.sq_nonneg _ _ n t))]

include hz hc in
/-- THE ROW NUMBERS AGREE at every token, and are row numbers. -/
theorem index_eq (t : Fin 512) : ∃ i : Fin 512, (best (rows z) c 5).2 (ix2 0 t) = BitVec.ofNat 32 i.val
    ∧ Cert.ReferenceIdeal.Value.nearest (F := Ideal) z c (ix1 t) = BitVec.ofNat 32 i.val := by
  have hk := Cert.KernelIdeal.Body.chosen_isFirst (rows z) c (tok z) (code c) (rows_eq z hz) (fun n d => hc (ix2 n d)) t
  have hr := Cert.ReferenceIdeal.Value.nearest_isFirst z c t (fun n => Real.sqrt (sq (tok z) (code c) n t)) (dists_eq z c hz hc t)
  have hk' : IsFirst (fun n => ((Real.sqrt (sq (tok z) (code c) n t) : ℝ) : EReal)) ((best (rows z) c 5).2 (ix2 0 t)) :=
    hk.of_order (fun a b h => EReal.coe_le_coe_iff.mpr (Real.sqrt_le_sqrt (EReal.coe_le_coe_iff.mp h))) fun a b h =>
      congrArg _ ((Real.sqrt_inj (Cert.KernelIdeal.Body.sq_nonneg _ _ a t) (Cert.KernelIdeal.Body.sq_nonneg _ _ b t)).mp
        (EReal.coe_eq_coe_iff.mp h))
  obtain ⟨i, hi, -⟩ := hk
  exact ⟨i, hi, (hr.unique hk').trans hi⟩

include hz hc in
/-- THE ROW NUMBERS AGREE as lists. -/
theorem indices_eq : shapeCast Cert.KernelIdeal.S512 (best (rows z) c 5).2 Cert.KernelIdeal.Gen.facts.shapeCasts_S1x512_S512
    = Cert.ReferenceIdeal.Value.nearest (F := Ideal) z c := by
  refine funext fun j => ?_
  obtain ⟨t, rfl⟩ : ∃ t : Fin 512, j = ix1 t := ⟨j 0, funext fun a => by match a with | ⟨0, _⟩ => rfl⟩
  obtain ⟨i, hk, hr⟩ := index_eq z c hz hc t
  rw [hr, ← hk]
  generalize (best (rows z) c 5).2 = v
  pointwise

include hz hc in
/-- THE ONE-HOT ROWS AGREE. -/
theorem oneHots_eq : oneAt (F := Ideal) (best (rows z) c 5).2
    = Cert.ReferenceIdeal.Value.oneHot (Cert.ReferenceIdeal.Value.nearest (F := Ideal) z c) := by
  refine funext fun j => ?_
  obtain ⟨t, d, rfl⟩ : ∃ t d : Fin 512, j = ix2 t d :=
    ⟨j 0, j 1, funext fun a => by match a with | ⟨0, _⟩ => rfl | ⟨1, _⟩ => rfl⟩
  obtain ⟨i, hk, hr⟩ := index_eq z c hz hc t
  rw [Cert.KernelIdeal.Body.oneAt_eq _ t i d hk, Cert.ReferenceIdeal.Value.oneHot_eq _ t i d hr]

end

end Cert.Equal

end
-- ==== Proof.lean ====
module

public import proofs.«01_k».proof.Defs
public import proofs.«01_k».proof.Proof.Gen.Kernel.Frame
public import proofs.«01_k».proof.Proof.Gen.KernelIdeal.Frame
public import proofs.«01_k».proof.Proof.Equal

@[expose] public section

set_option maxRecDepth 16384

noncomputable section

namespace Cert.Proof

open Idealize.ShloMosaic Idealize.SL.Sem

/-- THE VALUE CLAIM: on real arguments the kernel and the reference leave equal one-hot rows and equal row numbers. -/
theorem algebraic [hPre_finite : Cert.Pre_finite.Facts] : Cert.algebraic_KernelIdeal_ReferenceIdeal_pre_finite
    (hKernelIdeal := Cert.KernelIdeal.Gen.facts) (hReferenceIdeal := Cert.ReferenceIdeal.Gen.facts) := by
  intro m g m' g' hpre hargs
  refine ⟨_, _, Cert.KernelIdeal.Value.run m g, (θ_run _ _ _).mono (fun r h c => ?_) (Cert.ReferenceIdeal.Value.run m' g')⟩
  obtain ⟨h14, h7, h0, h1⟩ := h c
  obtain ⟨hz, hc⟩ := Cert.Equal.reals _ _ (hpre c)
  obtain ⟨a0, a1⟩ := hargs c
  rw [a0, a1] at h14 h7
  refine ⟨h14.trans ?_, h7.trans ?_, h0, h1⟩
  · rw [Cert.KernelIdeal.Body.out2_eq]
    exact (Cert.Equal.oneHots_eq _ _ hz hc).symm
  · rw [Cert.KernelIdeal.Body.out3_eq]
    exact (Cert.Equal.indices_eq _ _ hz hc).symm

/-- Everything that the certificate claims. -/
theorem claim : Cert.Claim :=
  ⟨Cert.Kernel.Gen.facts, Cert.KernelIdeal.Gen.facts, Cert.ReferenceIdeal.Gen.facts, Cert.Equal.preFacts,
    fun m g _ => Cert.Kernel.Gen.frame m g, fun m g _ => Cert.KernelIdeal.Gen.frame m g, fun m g _ => Cert.KernelIdeal.Gen.frame m g,
    fun m g _ => Cert.ReferenceIdeal.Value.frame m g, fun m g _ => Cert.ReferenceIdeal.Value.frame m g, trivial,
    algebraic (hPre_finite := Cert.Equal.preFacts)⟩

end Cert.Proof

end
